-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_products_fit_KernelIdeal [hPre_products_fit_KernelIdeal : Cert.Pre_products_fit_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_products_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_products_fit_ReferenceIdeal [hPre_products_fit_ReferenceIdeal : Cert.Pre_products_fit_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_products_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_products_fit_KernelIdeal [hKernelIdeal : Cert.KernelIdeal.Facts] [hPre_products_fit_KernelIdeal : Cert.Pre_products_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_products_fit_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_products_fit_ReferenceIdeal [hReferenceIdeal : Cert.ReferenceIdeal.Facts] [hPre_products_fit_ReferenceIdeal : Cert.Pre_products_fit_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_products_fit_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_products_fit_KernelIdeal [hKernelIdeal : Cert.KernelIdeal.Facts] [hReferenceIdeal : Cert.ReferenceIdeal.Facts] [hPre_products_fit_KernelIdeal : Cert.Pre_products_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_products_fit_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_products_fit_KernelIdeal : Cert.Pre_products_fit_KernelIdeal.Facts) (hPre_products_fit_ReferenceIdeal : Cert.Pre_products_fit_ReferenceIdeal.Facts),
    quiescent_Kernel (hKernel := hKernel)
    ∧ quiescent_KernelIdeal (hKernelIdeal := hKernelIdeal)
    ∧ quiescent_KernelIdeal_pre_products_fit_KernelIdeal (hKernelIdeal := hKernelIdeal) (hPre_products_fit_KernelIdeal := hPre_products_fit_KernelIdeal)
    ∧ quiescent_ReferenceIdeal (hReferenceIdeal := hReferenceIdeal)
    ∧ quiescent_ReferenceIdeal_pre_products_fit_ReferenceIdeal (hReferenceIdeal := hReferenceIdeal) (hPre_products_fit_ReferenceIdeal := hPre_products_fit_ReferenceIdeal)
    ∧ preserves_Kernel_KernelIdeal
    ∧ algebraic_KernelIdeal_ReferenceIdeal_pre_products_fit_KernelIdeal (hKernelIdeal := hKernelIdeal) (hReferenceIdeal := hReferenceIdeal) (hPre_products_fit_KernelIdeal := hPre_products_fit_KernelIdeal)
-- ==== Pre_products_fit_KernelIdeal.lean ====
abbrev S4096x256 : Shape := ⟨2, ![4096, 256]⟩
abbrev S4096x2048 : Shape := ⟨2, ![4096, 2048]⟩
abbrev S1 : Shape := ⟨1, ![1]⟩
abbrev S16x256x2048 : Shape := ⟨3, ![16, 256, 2048]⟩
abbrev S4096x16x2048 : Shape := ⟨3, ![4096, 16, 2048]⟩
abbrev S_ : Shape := ⟨0, ![]⟩

class Facts : Prop where
  natLt_8_32 : 8 < 32
  shapeCasts_S4096x2048_S16x256x2048 : S4096x2048.ShapeCasts S16x256x2048
  bcast_S_S4096x16x2048 : S_.BroadcastsInDim S4096x16x2048 (![] : Fin 0 → Fin S4096x16x2048.rank)
  dot_S4096x256_S16x256x2048_S4096x16x2048_1_1_0_02_n_n_wf : DotDims.WF S4096x256 S16x256x2048 S4096x16x2048 [1] [1] [0] [0, 2] [] []

variable [Facts]

def dot_S4096x256_S16x256x2048_S4096x16x2048_1_1_0_02_n_n : DotDims S4096x256 S16x256x2048 S4096x16x2048 where
  lhsContracting := [1]
  rhsContracting := [1]
  lhsNonContracting := [0]
  rhsNonContracting := [0, 2]
  lhsBatch := []
  rhsBatch := []
  wf := dot_S4096x256_S16x256x2048_S4096x16x2048_1_1_0_02_n_n_wf
def fn {F : FTy → Type} [FloatOps F] (main_arg0 : IVec S4096x256 8) (main_arg1 : IVec S4096x2048 8) (main_arg2 : FVec F S1 .f32) (main_arg3 : FVec F S1 .f32) : IVec S4096x16x2048 1 :=
  let main_v0 : IVec S4096x256 32 := (extsi 32 · natLt_8_32) main_arg0
  let main_v1 : IVec S4096x256 32 := absi main_v0
  let main_v2 : FVec F S4096x256 .f32 := sitofp .f32 main_v1
  let main_v3 : IVec S4096x2048 32 := (extsi 32 · natLt_8_32) main_arg1
  let main_v4 : IVec S4096x2048 32 := absi main_v3
  let main_v5 : FVec F S4096x2048 .f32 := sitofp .f32 main_v4
  let main_v6 : FVec F S16x256x2048 .f32 := shapeCast S16x256x2048 main_v5 shapeCasts_S4096x2048_S16x256x2048
  let main_v7 : FVec F S4096x16x2048 .f32 := (fun l r => Host.dotGeneral dot_S4096x256_S16x256x2048_S4096x16x2048_1_1_0_02_n_n none l r) main_v2 main_v6
  let main_cst : FVec F S_ .f32 := constant S_ .f32 0x497FFFF0#32
  let main_v8 : FVec F S4096x16x2048 .f32 := broadcastInDim S4096x16x2048 ![] bcast_S_S4096x16x2048 main_cst
  let main_v9 : IVec S4096x16x2048 1 := cmpf .ole main_v7 main_v8
  main_v9
-- ==== Pre_products_fit_ReferenceIdeal.lean ====
abbrev S4096x4096 : Shape := ⟨2, ![4096, 4096]⟩
abbrev S4096x2048 : Shape := ⟨2, ![4096, 2048]⟩
abbrev S1 : Shape := ⟨1, ![1]⟩
abbrev S1x4096x2048 : Shape := ⟨3, ![1, 4096, 2048]⟩
abbrev S4096x1x2048 : Shape := ⟨3, ![4096, 1, 2048]⟩
abbrev S_ : Shape := ⟨0, ![]⟩

class Facts : Prop where
  natLt_8_32 : 8 < 32
  shapeCasts_S4096x2048_S1x4096x2048 : S4096x2048.ShapeCasts S1x4096x2048
  bcast_S_S4096x1x2048 : S_.BroadcastsInDim S4096x1x2048 (![] : Fin 0 → Fin S4096x1x2048.rank)
  dot_S4096x4096_S1x4096x2048_S4096x1x2048_1_1_0_02_n_n_wf : DotDims.WF S4096x4096 S1x4096x2048 S4096x1x2048 [1] [1] [0] [0, 2] [] []

variable [Facts]

def dot_S4096x4096_S1x4096x2048_S4096x1x2048_1_1_0_02_n_n : DotDims S4096x4096 S1x4096x2048 S4096x1x2048 where
  lhsContracting := [1]
  rhsContracting := [1]
  lhsNonContracting := [0]
  rhsNonContracting := [0, 2]
  lhsBatch := []
  rhsBatch := []
  wf := dot_S4096x4096_S1x4096x2048_S4096x1x2048_1_1_0_02_n_n_wf
def fn {F : FTy → Type} [FloatOps F] (main_arg0 : IVec S4096x4096 8) (main_arg1 : IVec S4096x2048 8) (main_arg2 : FVec F S1 .f32) (main_arg3 : FVec F S1 .f32) : IVec S4096x1x2048 1 :=
  let main_v0 : IVec S4096x4096 32 := (extsi 32 · natLt_8_32) main_arg0
  let main_v1 : IVec S4096x4096 32 := absi main_v0
  let main_v2 : FVec F S4096x4096 .f32 := sitofp .f32 main_v1
  let main_v3 : IVec S4096x2048 32 := (extsi 32 · natLt_8_32) main_arg1
  let main_v4 : IVec S4096x2048 32 := absi main_v3
  let main_v5 : FVec F S4096x2048 .f32 := sitofp .f32 main_v4
  let main_v6 : FVec F S1x4096x2048 .f32 := shapeCast S1x4096x2048 main_v5 shapeCasts_S4096x2048_S1x4096x2048
  let main_v7 : FVec F S4096x1x2048 .f32 := (fun l r => Host.dotGeneral dot_S4096x4096_S1x4096x2048_S4096x1x2048_1_1_0_02_n_n none l r) main_v2 main_v6
  let main_cst : FVec F S_ .f32 := constant S_ .f32 0x4B7FFFFF#32
  let main_v8 : FVec F S4096x1x2048 .f32 := broadcastInDim S4096x1x2048 ![] bcast_S_S4096x1x2048 main_cst
  let main_v9 : IVec S4096x1x2048 1 := cmpf .ole main_v7 main_v8
  main_v9
-- ==== Kernel.lean ====
abbrev S4096x256 : Shape := ⟨2, ![4096, 256]⟩
abbrev S4096x2048 : Shape := ⟨2, ![4096, 2048]⟩
abbrev S1 : Shape := ⟨1, ![1]⟩
abbrev S256x2048 : Shape := ⟨2, ![256, 2048]⟩
abbrev S256x4096 : Shape := ⟨2, ![256, 4096]⟩
abbrev S16 : Shape := ⟨1, ![16]⟩
abbrev S_ : Shape := ⟨0, ![]⟩
abbrev S256x256 : Shape := ⟨2, ![256, 256]⟩

abbrev nBuf : Space → Nat
  | .hbm => 5
  | .vmem => 4
  | .smem => 2
  | _ => 0

abbrev bufTy : (tb : Table) → Fin (tcTables nBuf tb) → BufTy
  | .hbm, ⟨0, _⟩ => ⟨S4096x256, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .i8⟩
  | .local _ .vmem, ⟨1, _⟩ => ⟨S4096x2048, .i8⟩
  | .local _ .vmem, ⟨2, _⟩ => ⟨S256x2048, .f32⟩
  | .local _ .vmem, ⟨3, _⟩ => ⟨S256x4096, .i8⟩
  | .local _ .smem, ⟨0, _⟩ => ⟨S1, .f32⟩
  | .local _ .smem, ⟨1, _⟩ => ⟨S1, .f32⟩
  | _, _ => ⟨S4096x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_63 : BitVec 32 := 256#32
  let v67 : BitVec 32 := Scalar.muli v2 c256_i32_63
  ![0, v67.toNat]
def k0_off3 (d0 : Dev nD) (c1_i32_61 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c1_i32_61
  let c16_i32_62 : BitVec 32 := 16#32
  let v65 : BitVec 32 := Scalar.remsi v64 c16_i32_62
  let c256_i32 : BitVec 32 := 256#32
  let v66 : BitVec 32 := Scalar.muli v65 c256_i32
  let c0_i32_68 : BitVec 32 := 0#32
  ![v66.toNat, 0]
def k0_dev16 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c16_i32_62 : BitVec 32 := 16#32
  let v65 : BitVec 32 := Scalar.remsi v64 c16_i32_62
  let c1_i32_65 : BitVec 32 := 1#32
  let v68 : BitVec 32 := Scalar.muli v65 c1_i32_65
  let v69 : BitVec 32 := Scalar.addi c0_i32_66 v68
  v69.toNat
def k0_dev17 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_69 : BitVec 32 := 2#32
  let v76 : BitVec 32 := Scalar.addi v2 c2_i32_69
  let c16_i32_70 : BitVec 32 := 16#32
  let v77 : BitVec 32 := Scalar.remsi v76 c16_i32_70
  let c1_i32_74 : BitVec 32 := 1#32
  let v80 : BitVec 32 := Scalar.muli v77 c1_i32_74
  let v81 : BitVec 32 := Scalar.addi c0_i32_75 v80
  v81.toNat
def k0_dev18 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_78 : BitVec 32 := 3#32
  let v88 : BitVec 32 := Scalar.addi v2 c3_i32_78
  let c16_i32_79 : BitVec 32 := 16#32
  let v89 : BitVec 32 := Scalar.remsi v88 c16_i32_79
  let c1_i32_83 : BitVec 32 := 1#32
  let v92 : BitVec 32 := Scalar.muli v89 c1_i32_83
  let v93 : BitVec 32 := Scalar.addi c0_i32_84 v92
  v93.toNat
def k0_dev19 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_87 : BitVec 32 := 4#32
  let v100 : BitVec 32 := Scalar.addi v2 c4_i32_87
  let c16_i32_88 : BitVec 32 := 16#32
  let v101 : BitVec 32 := Scalar.remsi v100 c16_i32_88
  let c1_i32_92 : BitVec 32 := 1#32
  let v104 : BitVec 32 := Scalar.muli v101 c1_i32_92
  let v105 : BitVec 32 := Scalar.addi c0_i32_93 v104
  v105.toNat
def k0_dev20 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_96 : BitVec 32 := 5#32
  let v112 : BitVec 32 := Scalar.addi v2 c5_i32_96
  let c16_i32_97 : BitVec 32 := 16#32
  let v113 : BitVec 32 := Scalar.remsi v112 c16_i32_97
  let c1_i32_101 : BitVec 32 := 1#32
  let v116 : BitVec 32 := Scalar.muli v113 c1_i32_101
  let v117 : BitVec 32 := Scalar.addi c0_i32_102 v116
  v117.toNat
def k0_dev21 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_105 : BitVec 32 := 6#32
  let v124 : BitVec 32 := Scalar.addi v2 c6_i32_105
  let c16_i32_106 : BitVec 32 := 16#32
  let v125 : BitVec 32 := Scalar.remsi v124 c16_i32_106
  let c1_i32_110 : BitVec 32 := 1#32
  let v128 : BitVec 32 := Scalar.muli v125 c1_i32_110
  let v129 : BitVec 32 := Scalar.addi c0_i32_111 v128
  v129.toNat
def k0_dev22 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_114 : BitVec 32 := 7#32
  let v136 : BitVec 32 := Scalar.addi v2 c7_i32_114
  let c16_i32_115 : BitVec 32 := 16#32
  let v137 : BitVec 32 := Scalar.remsi v136 c16_i32_115
  let c1_i32_119 : BitVec 32 := 1#32
  let v140 : BitVec 32 := Scalar.muli v137 c1_i32_119
  let v141 : BitVec 32 := Scalar.addi c0_i32_120 v140
  v141.toNat
def k0_dev23 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_123 : BitVec 32 := 8#32
  let v148 : BitVec 32 := Scalar.addi v2 c8_i32_123
  let c16_i32_124 : BitVec 32 := 16#32
  let v149 : BitVec 32 := Scalar.remsi v148 c16_i32_124
  let c1_i32_128 : BitVec 32 := 1#32
  let v152 : BitVec 32 := Scalar.muli v149 c1_i32_128
  let v153 : BitVec 32 := Scalar.addi c0_i32_129 v152
  v153.toNat
def k0_dev24 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_132 : BitVec 32 := 9#32
  let v160 : BitVec 32 := Scalar.addi v2 c9_i32_132
  let c16_i32_133 : BitVec 32 := 16#32
  let v161 : BitVec 32 := Scalar.remsi v160 c16_i32_133
  let c1_i32_137 : BitVec 32 := 1#32
  let v164 : BitVec 32 := Scalar.muli v161 c1_i32_137
  let v165 : BitVec 32 := Scalar.addi c0_i32_138 v164
  v165.toNat
def k0_dev25 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_141 : BitVec 32 := 10#32
  let v172 : BitVec 32 := Scalar.addi v2 c10_i32_141
  let c16_i32_142 : BitVec 32 := 16#32
  let v173 : BitVec 32 := Scalar.remsi v172 c16_i32_142
  let c1_i32_146 : BitVec 32 := 1#32
  let v176 : BitVec 32 := Scalar.muli v173 c1_i32_146
  let v177 : BitVec 32 := Scalar.addi c0_i32_147 v176
  v177.toNat
def k0_dev26 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_150 : BitVec 32 := 11#32
  let v184 : BitVec 32 := Scalar.addi v2 c11_i32_150
  let c16_i32_151 : BitVec 32 := 16#32
  let v185 : BitVec 32 := Scalar.remsi v184 c16_i32_151
  let c1_i32_155 : BitVec 32 := 1#32
  let v188 : BitVec 32 := Scalar.muli v185 c1_i32_155
  let v189 : BitVec 32 := Scalar.addi c0_i32_156 v188
  v189.toNat
def k0_dev27 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_159 : BitVec 32 := 12#32
  let v196 : BitVec 32 := Scalar.addi v2 c12_i32_159
  let c16_i32_160 : BitVec 32 := 16#32
  let v197 : BitVec 32 := Scalar.remsi v196 c16_i32_160
  let c1_i32_164 : BitVec 32 := 1#32
  let v200 : BitVec 32 := Scalar.muli v197 c1_i32_164
  let v201 : BitVec 32 := Scalar.addi c0_i32_165 v200
  v201.toNat
def k0_dev28 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_168 : BitVec 32 := 13#32
  let v208 : BitVec 32 := Scalar.addi v2 c13_i32_168
  let c16_i32_169 : BitVec 32 := 16#32
  let v209 : BitVec 32 := Scalar.remsi v208 c16_i32_169
  let c1_i32_173 : BitVec 32 := 1#32
  let v212 : BitVec 32 := Scalar.muli v209 c1_i32_173
  let v213 : BitVec 32 := Scalar.addi c0_i32_174 v212
  v213.toNat
def k0_dev29 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_177 : BitVec 32 := 14#32
  let v220 : BitVec 32 := Scalar.addi v2 c14_i32_177
  let c16_i32_178 : BitVec 32 := 16#32
  let v221 : BitVec 32 := Scalar.remsi v220 c16_i32_178
  let c1_i32_182 : BitVec 32 := 1#32
  let v224 : BitVec 32 := Scalar.muli v221 c1_i32_182
  let v225 : BitVec 32 := Scalar.addi c0_i32_183 v224
  v225.toNat
def k0_dev30 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_186 : BitVec 32 := 15#32
  let v232 : BitVec 32 := Scalar.addi v2 c15_i32_186
  let c16_i32_187 : BitVec 32 := 16#32
  let v233 : BitVec 32 := Scalar.remsi v232 c16_i32_187
  let c1_i32_191 : BitVec 32 := 1#32
  let v236 : BitVec 32 := Scalar.muli v233 c1_i32_191
  let v237 : BitVec 32 := Scalar.addi c0_i32_192 v236
  v237.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_195 : BitVec 32 := 256#32
  let v244 : BitVec 32 := Scalar.muli v2 c256_i32_195
  let v245 : Index := Scalar.indexCast v244
  let c0 : Index := 0#32
  ![v245.toNat, 0]
def k0_off5 (d0 : Dev nD) : Fin 2 → Nat :=
  let c0_197 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_196 : BitVec 32 := 256#32
  let v248 : BitVec 32 := Scalar.muli v2 c256_i32_196
  let v249 : Index := Scalar.indexCast v248
  ![0, v249.toNat]
def k0_off6 (d0 : Dev nD) (c1_i32_198 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v253 : BitVec 32 := Scalar.subi v2 c1_i32_198
  let c16_i32_199 : BitVec 32 := 16#32
  let v254 : BitVec 32 := Scalar.addi v253 c16_i32_199
  let c16_i32_200 : BitVec 32 := 16#32
  let v255 : BitVec 32 := Scalar.remsi v254 c16_i32_200
  ![v255.toNat]
def k0_off7 (d0 : Dev nD) (c1_i32_198 : BitVec 32) : Fin 2 → Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v253 : BitVec 32 := Scalar.subi v2 c1_i32_198
  let c16_i32_199 : BitVec 32 := 16#32
  let v254 : BitVec 32 := Scalar.addi v253 c16_i32_199
  let c16_i32_200 : BitVec 32 := 16#32
  let v255 : BitVec 32 := Scalar.remsi v254 c16_i32_200
  let c256_i32_201 : BitVec 32 := 256#32
  let v256 : BitVec 32 := Scalar.muli v255 c256_i32_201
  ![0, v256.toNat]
abbrev stage0_0 : Fin 1 → Memref sig .tc .vmem S4096x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.SameText.lean ====
/-
# The printed kernel and its ideal reading have the same text

No operation was rewritten between the two, so over the same float values they are the same program.
-/
module

public import proofs.«01_k».proof.Proof.Gen.Kernel
public import proofs.«01_k».proof.Proof.Gen.KernelIdeal

@[expose] public section

set_option maxRecDepth 16384

noncomputable section

namespace Cert.Exchange

open Idealize.ShloMosaic

variable {F : FTy → Type} [FloatOps F]

/-- The tables of bodies agree: each has one entry, the body at the staging buffers. -/
theorem same_bodies : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F)
    (Λ := Cert.KernelIdeal.Λ₀)) ?_
  funext l a
  match l, a with
  | 0, (t, s) => rfl

theorem same_defs : Cert.Kernel.defs (F := F) = Cert.KernelIdeal.defs (F := F) :=
  congrArg (Pipeline.defs (Cert.KernelIdeal.pcfgs (F := F))) same_bodies

end Cert.Exchange

end
-- ==== Proof.Blocks.lean ====
/-
# The sixteen blocks of the two buffers, and what the gather leaves

Device `c` holds its columns of `x` in the staging buffer `x` [4096, 256] and collects its rows of the whole of `x` in
the scratch `full` [256, 4096]. Both are cut into sixteen blocks of 256 × 256, one per device: the row block `rows d`
of `x` goes to device `d`, the column block `cols s` of `full` comes from device `s`. This module states the blocks,
that they partition their buffers, and the contents `gathered` of `full` once every block has arrived.
-/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.Exchange

open Cert.KernelIdeal Cert.KernelIdeal.Gen
open Idealize.ShloMosaic Idealize.ShloMosaic.TcCoe

/-! ## Coordinates -/

/-- The memref of the staged columns of `x`, of the collected rows `full`, of the staged weights, and of the result. -/
abbrev xM : Memref sig .tc .vmem S4096x256 .i8 := Memref.whole cc0_stg0_0
abbrev wM : Memref sig .tc .vmem S4096x2048 .i8 := Memref.whole cc0_stg1_0
abbrev oM : Memref sig .tc .vmem S256x2048 .f32 := Memref.whole cc0_stg4_0
abbrev fullM : Memref sig .tc .vmem S256x4096 .i8 := Memref.whole cc0_scratch0

/-- Row block `d` of `x`, column block `s` of `full`. -/
abbrev rowM (d : Dev nD) : Memref sig .tc .vmem S256x256 .i8 :=
  xM.slice (Rect.unit (s := S4096x256) (k0_off4 d) S256x256.size (k0_off4_inb d)) (fun _ => rfl)
abbrev colM (s : Dev nD) : Memref sig .tc .vmem S256x256 .i8 :=
  fullM.slice (Rect.unit (s := S256x4096) (k0_off2 s) S256x256.size (k0_off2_inb s)) (fun _ => rfl)

/-- The element sets of the blocks. -/
abbrev rowSet (d : Dev nD) : Finset S4096x256.Idx := (rowM d).view.set
abbrev colSet (s : Dev nD) : Finset S256x4096.Idx := (colM s).view.set

theorem mem_rowSet (d : Dev nD) (i : S4096x256.Idx) : i ∈ rowSet d ↔ 256 * d.val ≤ (i 0).val ∧ (i 0).val < 256 * d.val + 256 := by
  have hs : rowSet d = (Rect.unit (s := S4096x256) (k0_off4 d) S256x256.size (k0_off4_inb d)).set := View.set_slice_whole _ _
  rw [hs, Rect.mem_set_unit, k0_off4_eq]
  have h1 : (i 1).val < 256 := (i 1).isLt
  constructor
  · intro h; exact h 0
  · intro h a
    fin_cases a
    · exact h
    · exact ⟨Nat.zero_le _, by simpa using h1⟩

theorem mem_colSet (s : Dev nD) (i : S256x4096.Idx) : i ∈ colSet s ↔ 256 * s.val ≤ (i 1).val ∧ (i 1).val < 256 * s.val + 256 := by
  have hs : colSet s = (Rect.unit (s := S256x4096) (k0_off2 s) S256x256.size (k0_off2_inb s)).set := View.set_slice_whole _ _
  rw [hs, Rect.mem_set_unit, k0_off2_eq]
  have h1 : (i 0).val < 256 := (i 0).isLt
  constructor
  · intro h; exact h 1
  · intro h a
    fin_cases a
    · exact ⟨Nat.zero_le _, by simpa using h1⟩
    · exact h

/-- The row blocks partition `x`; -/
theorem rowSet_disjoint (d d' : Dev nD) (h : d ≠ d') : Disjoint (rowSet d) (rowSet d') := by
  rw [Finset.disjoint_left]
  intro i hi hi'
  rw [mem_rowSet] at hi hi'
  exact h (Fin.ext (by omega))
theorem rowSet_cover : Finset.univ.biUnion rowSet = Finset.univ := by
  ext i
  simp only [Finset.mem_biUnion, Finset.mem_univ, true_and, iff_true]
  have h : (i 0).val < 4096 := (i 0).isLt
  exact ⟨⟨(i 0).val / 256, by show _ < 16; omega⟩, (mem_rowSet _ i).mpr (by dsimp only; omega)⟩
/-- the column blocks partition `full`. -/
theorem colSet_disjoint (s s' : Dev nD) (h : s ≠ s') : Disjoint (colSet s) (colSet s') := by
  rw [Finset.disjoint_left]
  intro i hi hi'
  rw [mem_colSet] at hi hi'
  exact h (Fin.ext (by omega))
theorem colSet_cover : Finset.univ.biUnion colSet = Finset.univ := by
  ext i
  simp only [Finset.mem_biUnion, Finset.mem_univ, true_and, iff_true]
  have h : (i 1).val < 4096 := (i 1).isLt
  exact ⟨⟨(i 1).val / 256, by show _ < 16; omega⟩, (mem_colSet _ i).mpr (by dsimp only; omega)⟩

/-! ## The contents -/

section Contents

variable {F : FTy → Type} [FloatOps F]

/-- What the scratch of device `c` holds once every block has arrived, given each device's columns `X d` of `x`:
    its row `r`, column `k` is row `256 c + r` of the whole `x` at column `k`, which device `k / 256` holds at its
    column `k % 256`. -/
def gathered (X : Dev nD → Vec F S4096x256 .i8) (c : Dev nD) : Vec F S256x4096 .i8 := fun i =>
  X ⟨(i 1).val / 256, by have h : (i 1).val < 4096 := (i 1).isLt; show _ < 16; omega⟩
    (Fin.cons ⟨256 * c.val + (i 0).val, by have h : (i 0).val < 256 := (i 0).isLt; have h' : c.val < 16 := c.isLt; show _ < 4096; omega⟩
      (Fin.cons ⟨(i 1).val % 256, Nat.mod_lt _ (by decide)⟩ finZeroElim))

/-- At column block `s`, `gathered` is device `s`'s row block `c`. -/
theorem gathered_emb (X : Dev nD → Vec F S4096x256 .i8) (c s : Dev nD) (y : S256x256.Idx) :
    gathered X c ((colM s).view.emb y) = (rowM c).view.read (Elt F) (X s) y := by
  show gathered X c ((colM s).view.emb y) = X s ((rowM c).view.emb y)
  have hc0 : ((colM s).view.emb y 0).val = (y 0).val := by
    show k0_off2 s 0 + 1 * (y 0).val = _
    rw [k0_off2_eq]; show 0 + 1 * (y 0).val = _; omega
  have hc1 : ((colM s).view.emb y 1).val = 256 * s.val + (y 1).val := by
    show k0_off2 s 1 + 1 * (y 1).val = _
    rw [k0_off2_eq]; show 256 * s.val + 1 * (y 1).val = _; omega
  have hr0 : ((rowM c).view.emb y 0).val = 256 * c.val + (y 0).val := by
    show k0_off4 c 0 + 1 * (y 0).val = _
    rw [k0_off4_eq]; show 256 * c.val + 1 * (y 0).val = _; omega
  have hr1 : ((rowM c).view.emb y 1).val = (y 1).val := by
    show k0_off4 c 1 + 1 * (y 1).val = _
    rw [k0_off4_eq]; show 0 + 1 * (y 1).val = _; omega
  have hy1 : (y 1).val < 256 := (y 1).isLt
  unfold gathered
  congr 1
  · apply Fin.ext; dsimp only; rw [hc1]; omega
  · funext a
    refine Fin.cases ?_ (fun b => ?_) a
    · apply Fin.ext; show 256 * c.val + ((colM s).view.emb y 0).val = _; rw [hc0, hr0]
    · obtain rfl : b = 0 := Subsingleton.elim _ _
      apply Fin.ext; show ((colM s).view.emb y 1).val % 256 = ((rowM c).view.emb y 1).val; rw [hc1, hr1]; omega

/-- A block written whole at column block `s` of `full`, its elements device `s`'s row block `c`: on the block, `full`
    holds `gathered`, whatever it held before. -/
theorem landed_eq (X : Dev nD → Vec F S4096x256 .i8) (c s : Dev nD) (f : Vec F S256x4096 .i8) (i : S256x4096.Idx) (hi : i ∈ colSet s) :
    (colM s).view.write (Elt F) f ((rowM c).view.read (Elt F) (X s)) Finset.univ i = gathered X c i := by
  obtain ⟨y, -, rfl⟩ := Finset.mem_map.mp hi
  rw [gathered_emb]
  exact View.write_emb_of_mem _ _ (Finset.mem_univ y)

end Contents

end Cert.Exchange

end
-- ==== Proof.Protocol.lean ====
/-
# The protocol of the exchange

Three families of semaphores, each waited on by its own device only:

* the barrier of device `t`: every other device `s` signals it by one unit, before anything else it does. With the
  signal `s` hands over its own column block `cols t`, at whatever contents: the block that `t` will write. Device `t`
  waits for all fifteen units before it starts its first copy.
* the receive semaphore `s` of device `t`: the copy of device `s` into column block `s` of `t` completes on it, and
  leaves the block there at `gathered t`.
* the send semaphore `j` of device `c`: its copy to device `c + j` has been read out of row block `c + j` of `x`, which
  comes back to `c` as it was.

Send semaphore `0` and receive semaphore `c` of device `c` are never used.
-/
module

public import proofs.«01_k».proof.Proof.Blocks
public import Idealize.ShloMosaic.Lib.Pipeline.BigSepL

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The duties of a round are named by devices: at a barrier, the device that signals. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The barrier semaphore; send semaphore `j`; receive semaphore `s`. -/
abbrev barS : Sem sig := (SemArray.scalar (sig.barrier 0 rfl) : Sems sig S_).sem
def sendS (j : Fin 16) : DmaSem sig := ⟨5 + j.val, by have h : j.val < 16 := j.isLt; show _ < 37; omega⟩
def recvS (s : Dev nD) : DmaSem sig := ⟨21 + s.val, by have h : s.val < 16 := s.isLt; show _ < 37; omega⟩

/-- The program's spelling of a send semaphore and of a receive semaphore. -/
theorem sendS_eq (off : Fin 1 → Nat) (inb : ∀ a, off a + S1.size a ≤ S16.size a) (j : Fin 16) (h : off = ![j.val]) :
    ((SemArray.slice cc0_scratch1 (Rect.unit (s := S16) off S1.size inb)).squeeze S_ squeezes_S1_S_).sem = sendS j := by
  subst h; revert inb; revert j; decide +kernel
theorem recvS_eq (off : Fin 1 → Nat) (inb : ∀ a, off a + S1.size a ≤ S16.size a) (s : Dev nD) (h : off = ![s.val]) :
    ((SemArray.slice cc0_scratch2 (Rect.unit (s := S16) off S1.size inb)).squeeze S_ squeezes_S1_S_).sem = recvS s := by
  subst h; revert inb; revert s; decide +kernel

abbrev barCell (c : Dev nD) : GSem nD τ sig := ((c : Thread nD τ), .reg barS)
abbrev sendCell (c : Dev nD) (j : Fin 16) : GSem nD τ sig := ((c : Thread nD τ), .dma (sendS j))
abbrev recvCell (c s : Dev nD) : GSem nD τ sig := ((c : Thread nD τ), .dma (recvS s))

/-- What a semaphore is for. -/
inductive Role where
  | other
  | bar
  | send (j : Fin 16)
  | recv (s : Fin 16)
  deriving DecidableEq

def role : SemLoc sig → Role
  | .reg _ => .bar
  | .dma q => if q.val < 5 then .other else if h : q.val < 21 then .send ⟨q.val - 5, by omega⟩
      else .recv ⟨q.val - 21, by have : q.val < 37 := q.isLt; omega⟩

theorem role_send (j : Fin 16) : role (.dma (sendS j)) = .send j := by revert j; decide
theorem role_recv (s : Dev nD) : role (.dma (recvS s)) = .recv s := by revert s; decide
theorem sendS_inj {j j' : Fin 16} (h : sendS j = sendS j') : j = j' := by
  have := congrArg (fun q : DmaSem sig => role (.dma q)) h
  simp only [role_send] at this; injection this
theorem recvS_inj {s s' : Dev nD} (h : recvS s = recvS s') : s = s' := by
  have := congrArg (fun q : DmaSem sig => role (.dma q)) h
  simp only [role_recv] at this; injection this

/-- The units one block's copy is worth. -/
abbrev N : ℕ := (colM 0).view.dmaCredit
theorem N_pos : 0 < N := View.dmaCredit_pos _ (by decide)

/-! ## The blocks held -/

/-- Device `c` holds row block `d` of its staged `x`; column block `s` of its `full`. -/
def rowPts (c d : Dev nD) (f : Vec F S4096x256 .i8) : sProp 𝕄 :=
  (rowM d).view.loc (c : Thread nD τ) ↦[(rowM d).view.set]{fullShare} f
def colPts (c s : Dev nD) (f : Vec F S256x4096 .i8) : sProp 𝕄 :=
  (colM s).view.loc (c : Thread nD τ) ↦[(colM s).view.set]{fullShare} f

instance rowPts_storable (c d : Dev nD) (f) : BI.Storable (upEmb : UEmb _ 𝕄) (rowPts (F := F) c d f) := by unfold rowPts; infer_instance
instance colPts_storable (c s : Dev nD) (f) : BI.Storable (upEmb : UEmb _ 𝕄) (colPts (F := F) c s f) := by unfold colPts; infer_instance

/-- The staged `x` held whole is its sixteen row blocks; -/
theorem x_blocks (c : Dev nD) (f : Vec F S4096x256 .i8) :
    (((c : Thread nD τ).loc cc0_stg0_0) ↦{fullShare} f : sProp 𝕄) = bigSep Finset.univ fun d : Dev nD => rowPts c d f :=
  Ring.pointsTo_blocks (ℓ := (c : Thread nD τ).loc cc0_stg0_0) rowSet rowSet_disjoint rowSet_cover f
/-- `full` held whole is its sixteen column blocks. -/
theorem full_blocks (c : Dev nD) (f : Vec F S256x4096 .i8) :
    (((c : Thread nD τ).loc cc0_scratch0) ↦{fullShare} f : sProp 𝕄) = bigSep Finset.univ fun s : Dev nD => colPts c s f :=
  Ring.pointsTo_blocks (ℓ := (c : Thread nD τ).loc cc0_scratch0) colSet colSet_disjoint colSet_cover f

/-! ## The schedule -/

variable (X : Dev nD → Vec F S4096x256 .i8)

/-- What device `s` hands device `t` with its signal: its column block `t`, and that it has reached round 0 of the
    semaphore `t`'s copy will complete on. -/
def barPay (t s : Dev nD) : sProp 𝕄 := iprop((∃ f, colPts s t f) ∗ reached ER (recvCell s t) 0)

instance barPay_storable (t s : Dev nD) : BI.Storable (upEmb : UEmb _ 𝕄) (barPay (F := F) t s) := by unfold barPay; infer_instance

/-- One round each: the barrier's fifteen signals of one unit, one copy on each used send and receive semaphore. -/
def sched : Rounds.Schedule (GSem nD τ sig) (Dev nD) 𝕄 where
  duties g r := if r = 0 then (match role g.2 with
    | .bar => Finset.univ.erase g.1.1
    | .send j => if j = 0 then ∅ else {0}
    | .recv s => if s = g.1.1 then ∅ else {0}
    | .other => ∅) else ∅
  unitless _ := False
  amount g _ _ := match role g.2 with
    | .bar => 1
    | _ => N
  payload g _ d := match role g.2 with
    | .bar => barPay g.1.1 d
    | .send j => rowPts g.1.1 (g.1.1 + j) (X g.1.1)
    | .recv s => colPts g.1.1 s (gathered X g.1.1)
    | .other => iprop(emp)
  amount_pos g _ _ _ := by
    cases role g.2
    · exact N_pos
    · exact Nat.one_pos
    · exact N_pos
    · exact N_pos

instance sched_payload_storable (g : GSem nD τ sig) (r : ℕ) (d : Dev nD) :
    BI.Storable (upEmb : UEmb _ 𝕄) ((sched (F := F) X).payload g r d) := by
  dsimp only [sched]
  cases role g.2 <;> infer_instance

theorem duties_bar (c : Dev nD) : (sched (F := F) X).duties (barCell c) 0 = Finset.univ.erase c := by dsimp only [sched]; exact if_pos rfl
theorem duties_send (c : Dev nD) (j : Fin 16) (hj : j ≠ 0) : (sched (F := F) X).duties (sendCell c j) 0 = {0} := by
  dsimp only [sched]; rw [if_pos rfl, role_send]; exact if_neg hj
theorem duties_recv (c s : Dev nD) (hs : s ≠ c) : (sched (F := F) X).duties (recvCell c s) 0 = {0} := by
  dsimp only [sched]; rw [if_pos rfl, role_recv]; exact if_neg hs
/-- The unused semaphores have no duty in any round, -/
theorem duties_send_unused (c : Dev nD) (r : ℕ) : (sched (F := F) X).duties (sendCell c 0) r = ∅ := by
  dsimp only [sched]; rw [role_send]; split
  · exact if_pos rfl
  · rfl
theorem duties_recv_unused (c : Dev nD) (r : ℕ) : (sched (F := F) X).duties (recvCell c c) r = ∅ := by
  dsimp only [sched]; rw [role_recv]; split
  · exact if_pos rfl
  · rfl
/-- and no semaphore has one after round 0. -/
theorem duties_later (g : GSem nD τ sig) : ∀ r, 0 + 1 ≤ r → (sched (F := F) X).duties g r = ∅ :=
  fun r hr => by dsimp only [sched]; exact if_neg (by omega)

theorem amount_bar (c d : Dev nD) : (sched (F := F) X).amount (barCell c) 0 d = 1 := rfl
theorem amount_send (c : Dev nD) (j : Fin 16) (d : Dev nD) : (sched (F := F) X).amount (sendCell c j) 0 d = N := by
  dsimp only [sched]; rw [role_send]
theorem amount_recv (c s d : Dev nD) : (sched (F := F) X).amount (recvCell c s) 0 d = N := by
  dsimp only [sched]; rw [role_recv]

theorem expect_bar (c : Dev nD) : (sched (F := F) X).expect (barCell c) 0 = 15 := by
  unfold Schedule.expect Schedule.amountOf
  rw [duties_bar, Finset.sum_congr rfl fun d _ => amount_bar X c d, Finset.sum_const, Finset.card_erase_of_mem (Finset.mem_univ _),
    Finset.card_univ, Fintype.card_fin]
  rfl
theorem expect_send (c : Dev nD) (j : Fin 16) (hj : j ≠ 0) : (sched (F := F) X).expect (sendCell c j) 0 = N := by
  unfold Schedule.expect Schedule.amountOf; rw [duties_send X c j hj, Finset.sum_singleton, amount_send]
theorem expect_recv (c s : Dev nD) (hs : s ≠ c) : (sched (F := F) X).expect (recvCell c s) 0 = N := by
  unfold Schedule.expect Schedule.amountOf; rw [duties_recv X c s hs, Finset.sum_singleton, amount_recv]

theorem payload_bar (c d : Dev nD) : (sched (F := F) X).payload (barCell c) 0 d = barPay c d := rfl
theorem payload_send (c : Dev nD) (j : Fin 16) (d : Dev nD) : (sched (F := F) X).payload (sendCell c j) 0 d = rowPts c (c + j) (X c) := by
  dsimp only [sched]; rw [role_send]
theorem payload_recv (c s d : Dev nD) : (sched (F := F) X).payload (recvCell c s) 0 d = colPts c s (gathered X c) := by
  dsimp only [sched]; rw [role_recv]

/-- What a wait for the whole round collects. -/
theorem rest_bar (c : Dev nD) :
    bigSep ((sched (F := F) X).duties (barCell c) 0 \ ∅) (fun d => (sched (F := F) X).payload (barCell c) 0 d)
      = bigSep (Finset.univ.erase c) fun d => barPay c d := by
  rw [Finset.sdiff_empty, duties_bar]; rfl
theorem rest_send (c : Dev nD) (j : Fin 16) (hj : j ≠ 0) :
    bigSep ((sched (F := F) X).duties (sendCell c j) 0 \ ∅) (fun d => (sched (F := F) X).payload (sendCell c j) 0 d) = rowPts c (c + j) (X c) := by
  rw [Finset.sdiff_empty, duties_send X c j hj, bigSep_singleton, payload_send]
theorem rest_recv (c s : Dev nD) (hs : s ≠ c) :
    bigSep ((sched (F := F) X).duties (recvCell c s) 0 \ ∅) (fun d => (sched (F := F) X).payload (recvCell c s) 0 d) = colPts c s (gathered X c) := by
  rw [Finset.sdiff_empty, duties_recv X c s hs, bigSep_singleton, payload_recv]

/-! ## The order of the steps

The kernel takes its fifteen peers by distance: its `r`-th step of each kind is with the device `r + 1` ahead of it (signals
and copies) or behind it (receives). -/

/-- The fifteen steps. -/
abbrev steps : List (Fin 15) := [0, 1, 2, 3, 4, 5, 6, 7, 8, 9, 10, 11, 12, 13, 14]

/-- A conjunction over sixteen things, in any enumeration of them, is its first conjunct and the fifteen others in step. -/
theorem bigSep_steps {M : Type} [URA M] (e : Fin 16 ≃ Fin 16) (Φ : Fin 16 → sProp M) :
    bigSep Finset.univ Φ = iprop(Φ (e 0) ∗ bigSepL steps fun r => Φ (e r.succ)) := by
  rw [bigSep_univ_equiv e Φ, bigSep_univ_eq_bigSepL [0, 1, 2, 3, 4, 5, 6, 7, 8, 9, 10, 11, 12, 13, 14, 15] (by decide) (by decide),
    bigSepL_cons']
  rfl

theorem ahead_ne (c : Dev nD) (r : Fin 15) : c + r.succ ≠ c := by
  revert c r; decide
theorem behind_ne (c : Dev nD) (r : Fin 15) : c - r.succ ≠ c := by
  revert c r; decide

/-- The device a given distance ahead of `c`, and the one that distance behind it. -/
def ahead (c : Dev nD) : Fin 16 ≃ Dev nD := ⟨fun d => c + d, fun d => d - c, by revert c; decide, by revert c; decide⟩
def behind (c : Dev nD) : Fin 16 ≃ Dev nD := ⟨fun d => c - d, fun d => c - d, by revert c; decide, by revert c; decide⟩
theorem ahead_zero (c : Dev nD) : ahead c 0 = c := by revert c; decide
theorem behind_zero (c : Dev nD) : behind c 0 = c := by revert c; decide

theorem bigSep_ahead {M : Type} [URA M] (c : Dev nD) (Φ : Dev nD → sProp M) :
    bigSep Finset.univ Φ = iprop(Φ c ∗ bigSepL steps fun r => Φ (c + r.succ)) := by
  rw [bigSep_steps (ahead c) Φ, ahead_zero]; rfl
theorem bigSep_behind {M : Type} [URA M] (c : Dev nD) (Φ : Dev nD → sProp M) :
    bigSep Finset.univ Φ = iprop(Φ c ∗ bigSepL steps fun r => Φ (c - r.succ)) := by
  rw [bigSep_steps (behind c) Φ, behind_zero]; rfl
theorem bigSep_index {M : Type} [URA M] (Φ : Fin 16 → sProp M) :
    bigSep Finset.univ Φ = iprop(Φ 0 ∗ bigSepL steps fun r => Φ r.succ) :=
  bigSep_steps (Equiv.refl _) Φ
/-- The others alone. -/
theorem bigSep_others {M : Type} [URA M] (c : Dev nD) (Φ : Dev nD → sProp M) :
    bigSep (Finset.univ.erase c) Φ = bigSepL steps fun r => Φ (c + r.succ) := by
  have h : Finset.univ.erase c = (steps.map fun r => c + r.succ).toFinset := by revert c; decide
  have hn : (steps.map fun r => c + r.succ).Nodup := by revert c; decide
  rw [bigSep_eq_bigSepL_of_eq _ h hn, bigSepL_map]

/-! ## What a device owes, and the order of the waits -/

/-- The units device `c` still owes to the receive semaphores, and to the barriers, of the peers of the steps `rs`. -/
def recvDebt (c : Dev nD) (rs : List (Fin 15)) : CellTallies nD τ sig Unit := (rs.map fun r => tallyAt (recvCell (c + r.succ) c) () N).sum
def barDebt (c : Dev nD) (rs : List (Fin 15)) : CellTallies nD τ sig Unit := (rs.map fun r => tallyAt (barCell (c + r.succ)) () 1).sum
/-- At launch: all of them. -/
def O₀ (c : Dev nD) : CellTallies nD τ sig Unit := recvDebt c steps + barDebt c steps

def L (g : GSem nD τ sig) : Finset Unit := if g.1.2 = .tc then {()} else ∅
/-- A wait at the barrier comes before one on a receive semaphore; the other waits come before both. -/
def lv (g : GSem nD τ sig) (_ : Unit) : ℕ := match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c s : Dev nD) (u : Unit) : lv (recvCell c s) u = 2 := by dsimp only [lv]; rw [role_recv]
theorem lv_bar (c : Dev nD) (u : Unit) : lv (barCell c) u = 1 := rfl

/-- Where a sum of debts is positive, one of the debts is. -/
theorem sum_pos {g : GSem nD τ sig} {u : Unit} {k : ℕ} (cell : Fin 15 → GSem nD τ sig) (rs : List (Fin 15))
    (h : 0 < (rs.map fun r => (tallyAt (cell r) () k : CellTallies nD τ sig Unit)).sum g u) : ∃ r, g = cell r := by
  induction rs with
  | nil => exact absurd h (Nat.lt_irrefl 0)
  | cons r rs ih =>
    rw [List.map_cons, List.sum_cons, Pi.add_apply, Finsupp.add_apply, tallyAt_apply] at h
    by_cases hg : g = cell r ∧ u = ()
    · exact ⟨r, hg.1⟩
    · rw [if_neg hg, Nat.zero_add] at h; exact ih h

theorem recvDebt_pos {c : Dev nD} {rs : List (Fin 15)} {g : GSem nD τ sig} {u : Unit} (h : 0 < recvDebt c rs g u) : ∃ d, g = recvCell d c :=
  let ⟨_, hr⟩ := sum_pos (fun r => recvCell (c + r.succ) c) rs h; ⟨_, hr⟩
theorem barDebt_pos {c : Dev nD} {rs : List (Fin 15)} {g : GSem nD τ sig} {u : Unit} (h : 0 < barDebt c rs g u) : ∃ d, g = barCell d :=
  let ⟨_, hr⟩ := sum_pos (fun r => barCell (c + r.succ)) rs h; ⟨_, hr⟩

/-- A device may wait on a semaphore below the barriers' level whatever it owes of its launch debt. -/
theorem mayWait_stage (c : Dev nD) (sm : SemLoc sig) (hl : ∀ u, lv ((c : Thread nD τ), sm) u = 0) (O : CellTallies nD τ sig Unit) (hO : O = O₀ c ∨ O = 0) :
    (levAts L lv : sProp 𝕄) ⊢ MayWait (c : Thread nD τ) sm () O := by
  rcases hO with rfl | rfl
  · have hp {g : GSem nD τ sig} {u : Unit} (h : 0 < O₀ c g u) : (∃ d, g = recvCell d c) ∨ ∃ d, g = barCell d := by
      unfold O₀ at h
      rw [Pi.add_apply, Finsupp.add_apply] at h
      rcases Nat.eq_zero_or_pos (recvDebt c steps g u) with h0 | h0
      · rw [h0, Nat.zero_add] at h; exact .inr (barDebt_pos h)
      · exact .inl (recvDebt_pos h0)
    refine MayOwe.of_cut (L := L) (lev := lv) 0 (fun p hp => by rw [Finset.mem_singleton.mp hp, L_tc]; exact Finset.mem_singleton_self _)
      (fun g u hg => by rcases hp hg with ⟨d, rfl⟩ | ⟨d, rfl⟩ <;> exact Finset.mem_singleton_self _)
      (fun p hp => by rw [Finset.mem_singleton.mp hp]; exact (hl _).le)
      (fun g u hg => by
        rcases hp hg with ⟨d, rfl⟩ | ⟨d, rfl⟩
        · rw [lv_recv]; decide
        · rw [lv_bar]; decide)
  · rw [MayWait_zero]; iintro -; iempintro

/-- At its barrier a device owes to receive semaphores only. -/
theorem mayWait_bar (c : Dev nD) (rs : List (Fin 15)) :
    (levAts L lv : sProp 𝕄) ⊢ MayWait (c : Thread nD τ) (.reg barS) () (recvDebt c rs) :=
  MayOwe.of_cut (L := L) (lev := lv) 1 (fun p hp => by rw [Finset.mem_singleton.mp hp, L_tc]; exact Finset.mem_singleton_self _)
    (fun g u hg => by obtain ⟨d, rfl⟩ := recvDebt_pos hg; exact Finset.mem_singleton_self _)
    (fun p hp => by rw [Finset.mem_singleton.mp hp]; exact le_rfl)
    (fun g u hg => by obtain ⟨d, rfl⟩ := recvDebt_pos hg; rw [lv_recv]; decide)

/-! ## The records

The invariants of all the semaphores and the fact that round 0 of each is reached, which every device may use. -/

/-- A kernel's own semaphores: send (`false`) and receive (`true`), sixteen each; -/
abbrev osem : Bool × Fin 16 → SemLoc sig := fun k => .dma (if k.1 then recvS k.2 else sendS k.2)
/-- and these with the barrier (`none`). -/
abbrev csem : Option (Bool × Fin 16) → SemLoc sig := fun
  | none => .reg barS
  | some k => osem k
abbrev cellAt (ck : Dev nD × Option (Bool × Fin 16)) : GSem nD τ sig := ((ck.1 : Thread nD τ), csem ck.2)

def records (K : Dev nD × Option (Bool × Fin 16) → ℕ) : sProp 𝕄 :=
  iprop((bigSep Finset.univ fun ck => cellInv ER (sched X) (K ck) (cellAt ck)) ∗ bigSep Finset.univ fun ck => reached ER (cellAt ck) 0)

instance records_persistent (K : Dev nD × Option (Bool × Fin 16) → ℕ) : BI.Persistent (records X K) := by unfold records; infer_instance

variable {X}
variable {K : Dev nD × Option (Bool × Fin 16) → ℕ}

theorem records_inv (ck : Dev nD × Option (Bool × Fin 16)) : records X K ⊢ cellInv ER (sched X) (K ck) (cellAt ck) := by
  unfold records
  exact Laws.sep_and.trans (and_elimL.trans (bigSep_elim (Finset.mem_univ ck)))
theorem records_reached (ck : Dev nD × Option (Bool × Fin 16)) : records X K ⊢ (reached ER (cellAt ck) 0 : sProp 𝕄) := by
  unfold records
  exact Laws.sep_and.trans (and_elimR.trans (bigSep_elim (Finset.mem_univ ck)))

theorem inv_bar (c : Dev nD) : records X K ⊢ cellInv ER (sched X) (K (c, none)) (barCell c) := records_inv (c, none)
theorem inv_send (c : Dev nD) (j : Fin 16) : records X K ⊢ cellInv ER (sched X) (K (c, some (false, j))) (sendCell c j) := records_inv (c, some (false, j))
theorem inv_recv (c s : Dev nD) : records X K ⊢ cellInv ER (sched X) (K (c, some (true, s))) (recvCell c s) := records_inv (c, some (true, s))
theorem reached_bar (c : Dev nD) : records X K ⊢ (reached ER (barCell c) 0 : sProp 𝕄) := records_reached (c, none)
theorem reached_send (c : Dev nD) (j : Fin 16) : records X K ⊢ (reached ER (sendCell c j) 0 : sProp 𝕄) := records_reached (c, some (false, j))
theorem reached_recv (c s : Dev nD) : records X K ⊢ (reached ER (recvCell c s) 0 : sProp 𝕄) := records_reached (c, some (true, s))

end Cert.Exchange

end
-- ==== Proof.Steps.lean ====
/-
# The four loops of the kernel

Each of the kernel's loops over its fifteen peers — the signals, the copies, the waits for the blocks that arrive, the
waits for the copies that leave — is a program over the list of steps still to do. This module states the operation of
one step of each loop, proves the step once at an arbitrary device, and draws the whole loop from the step by induction
on the list.
-/
module

public import proofs.«01_k».proof.Proof.Protocol

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## A loop -/

/-- The operations `e r` for the steps `r` of the list in turn, then `k`. -/
def each {α : Type} (e : Fin 15 → TpuEff nD τ sig (Elt F) Λ₀ .tc PUnit) :
    List (Fin 15) → Prog (TpuEff nD τ sig (Elt F) Λ₀ .tc) α → Prog (TpuEff nD τ sig (Elt F) Λ₀ .tc) α
  | [], k => k
  | r :: rs, k => .op (e r) fun _ => each e rs k

/-- A loop takes the state `I rs` to `I []`, and each step's `Pre` to its `Post`, when every step does. -/
theorem wp_each {α : Type} {Q : α → sProp 𝕄} (c : Dev nD) {e : Fin 15 → TpuEff nD τ sig (Elt F) Λ₀ .tc PUnit}
    {I : List (Fin 15) → sProp 𝕄} {Pre Post : Fin 15 → sProp 𝕄}
    (step : ∀ (r : Fin 15) (rs : List (Fin 15)) (k : Prog (TpuEff nD τ sig (Elt F) Λ₀ .tc) α),
      iprop(I (r :: rs) ∗ Pre r)
        ⊢ iprop(((I rs ∗ Post r) -∗ wp frame (wpE (defs₀ (F := F)) 𝒱₀ (c : Thread nD τ) none) Set.univ k Q)
          -∗ wp frame (wpE (defs₀ (F := F)) 𝒱₀ (c : Thread nD τ) none) Set.univ (.op (e r) fun _ => k) Q))
    (rs : List (Fin 15)) (k : Prog (TpuEff nD τ sig (Elt F) Λ₀ .tc) α) :
    iprop(I rs ∗ bigSepL rs Pre)
      ⊢ iprop(((I [] ∗ bigSepL rs Post) -∗ wp frame (wpE (defs₀ (F := F)) 𝒱₀ (c : Thread nD τ) none) Set.univ k Q)
        -∗ wp frame (wpE (defs₀ (F := F)) 𝒱₀ (c : Thread nD τ) none) Set.univ (each e rs k) Q) := by
  induction rs with
  | nil =>
    unfold each
    iintro H Hk
    iapply Hk; iexact H
  | cons r rs ih =>
    rw [bigSepL_cons', bigSepL_cons']
    unfold each
    iintro ⟨HI, Hr, Hrs⟩ Hk
    iapply (step r rs (each e rs k)) $$ [HI Hr]
    · isplitl [HI] <;> iassumption
    iintro ⟨HI, Hr⟩
    iapply ih $$ [HI Hrs]
    · isplitl [HI] <;> iassumption
    iintro ⟨HI, Hrs⟩
    iapply Hk
    isplitl [HI]; · iexact HI
    isplitl [Hr] <;> iassumption

/-! ## The devices and the blocks of a step -/

/-- The device signalled, and the device written to, at step `r`: as the program computes them, -/
def sigDev (c : Dev nD) : Fin 15 → Dev nD := fun
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩ | 7 => ⟨k0_dev8 c, k0_dev8_lt c⟩ | 8 => ⟨k0_dev9 c, k0_dev9_lt c⟩
  | 9 => ⟨k0_dev10 c, k0_dev10_lt c⟩ | 10 => ⟨k0_dev11 c, k0_dev11_lt c⟩ | 11 => ⟨k0_dev12 c, k0_dev12_lt c⟩
  | 12 => ⟨k0_dev13 c, k0_dev13_lt c⟩ | 13 => ⟨k0_dev14 c, k0_dev14_lt c⟩ | 14 => ⟨k0_dev15 c, k0_dev15_lt c⟩
def sendDev (c : Dev nD) : Fin 15 → Dev nD := fun
  | 0 => ⟨k0_dev16 c, k0_dev16_lt c⟩ | 1 => ⟨k0_dev17 c, k0_dev17_lt c⟩ | 2 => ⟨k0_dev18 c, k0_dev18_lt c⟩
  | 3 => ⟨k0_dev19 c, k0_dev19_lt c⟩ | 4 => ⟨k0_dev20 c, k0_dev20_lt c⟩ | 5 => ⟨k0_dev21 c, k0_dev21_lt c⟩
  | 6 => ⟨k0_dev22 c, k0_dev22_lt c⟩ | 7 => ⟨k0_dev23 c, k0_dev23_lt c⟩ | 8 => ⟨k0_dev24 c, k0_dev24_lt c⟩
  | 9 => ⟨k0_dev25 c, k0_dev25_lt c⟩ | 10 => ⟨k0_dev26 c, k0_dev26_lt c⟩ | 11 => ⟨k0_dev27 c, k0_dev27_lt c⟩
  | 12 => ⟨k0_dev28 c, k0_dev28_lt c⟩ | 13 => ⟨k0_dev29 c, k0_dev29_lt c⟩ | 14 => ⟨k0_dev30 c, k0_dev30_lt c⟩

theorem ahead_val (c : Dev nD) (r : Fin 15) : (c + r.succ).val = (c.val + (r.val + 1)) % 16 := rfl
theorem behind_val (c : Dev nD) (r : Fin 15) : (c - r.succ).val = (c.val + 15 - r.val) % 16 := by
  revert c r; decide

/-- and both are the device `r + 1` ahead. -/
theorem sigDev_eq (c : Dev nD) (r : Fin 15) : sigDev c r = c + r.succ := by
  apply Fin.ext
  rw [ahead_val]
  fin_cases r
  · exact k0_dev1_eq c
  · exact k0_dev2_eq c
  · exact k0_dev3_eq c
  · exact k0_dev4_eq c
  · exact k0_dev5_eq c
  · exact k0_dev6_eq c
  · exact k0_dev7_eq c
  · exact k0_dev8_eq c
  · exact k0_dev9_eq c
  · exact k0_dev10_eq c
  · exact k0_dev11_eq c
  · exact k0_dev12_eq c
  · exact k0_dev13_eq c
  · exact k0_dev14_eq c
  · exact k0_dev15_eq c
theorem sendDev_eq (c : Dev nD) (r : Fin 15) : sendDev c r = c + r.succ := by
  apply Fin.ext
  rw [ahead_val]
  fin_cases r
  · exact k0_dev16_eq c
  · exact k0_dev17_eq c
  · exact k0_dev18_eq c
  · exact k0_dev19_eq c
  · exact k0_dev20_eq c
  · exact k0_dev21_eq c
  · exact k0_dev22_eq c
  · exact k0_dev23_eq c
  · exact k0_dev24_eq c
  · exact k0_dev25_eq c
  · exact k0_dev26_eq c
  · exact k0_dev27_eq c
  · exact k0_dev28_eq c
  · exact k0_dev29_eq c
  · exact k0_dev30_eq c

/-- The step as a word of the program. -/
abbrev wd (r : Fin 15) : BitVec 32 := BitVec.ofNat 32 (1 + r.val)

/-- The row block sent at step `r`, and the block received, as the program names them. -/
abbrev srcM (c : Dev nD) (r : Fin 15) : Memref sig .tc .vmem S256x256 .i8 :=
  xM.slice (Rect.unit (s := S4096x256) (k0_off3 c (wd r)) S256x256.size (k0_off3_inb c r)) (fun _ => rfl)
abbrev inM (c : Dev nD) (r : Fin 15) : Memref sig .tc .vmem S256x256 .i8 :=
  fullM.slice (Rect.unit (s := S256x4096) (k0_off7 c (wd r)) S256x256.size (k0_off7_inb c r)) (fun _ => rfl)
/-- Any block of `x`: what a wait for a received block names as its source. -/
abbrev anyM : Memref sig .tc .vmem S256x256 .i8 :=
  xM.slice (Rect.unit (s := S4096x256) ![0, 0] S256x256.size inb_S4096x256_S256x256_0_0) (fun _ => rfl)

theorem S16_inb (r : Fin 15) : ∀ a, (![1 + r.val] : Fin 1 → Nat) a + S1.size a ≤ S16.size a := by revert r; decide

/-- The semaphores of step `r`, as the program names them. -/
abbrev sendSm (r : Fin 15) : DmaSem sig := ((SemArray.slice cc0_scratch1 (Rect.unit (s := S16) ![1 + r.val] S1.size (S16_inb r))).squeeze S_ squeezes_S1_S_).sem
abbrev landSm (c : Dev nD) : DmaSem sig := ((SemArray.slice cc0_scratch2 (Rect.unit (s := S16) (k0_off1 c) S1.size (k0_off1_inb c))).squeeze S_ squeezes_S1_S_).sem
abbrev recvSm (c : Dev nD) (r : Fin 15) : DmaSem sig :=
  ((SemArray.slice cc0_scratch2 (Rect.unit (s := S16) (k0_off6 c (wd r)) S1.size (k0_off6_inb c r))).squeeze S_ squeezes_S1_S_).sem

theorem sendSm_eq (r : Fin 15) : sendSm r = sendS r.succ :=
  sendS_eq _ _ _ (by rw [Fin.val_succ, Nat.add_comm])
theorem landSm_eq (c : Dev nD) : landSm c = recvS c := recvS_eq _ _ _ (k0_off1_eq c)
theorem recvSm_eq (c : Dev nD) (r : Fin 15) : recvSm c r = recvS (c - r.succ) :=
  recvS_eq _ _ _ ((k0_off6_eq c r).trans (by rw [behind_val]))

/-- The row block sent at step `r` is the target's. -/
theorem srcM_eq (c : Dev nD) (r : Fin 15) : srcM c r = rowM (c + r.succ) := by
  have h : k0_off3 c (wd r) = k0_off4 (c + r.succ) := by
    rw [k0_off3_eq, k0_off4_eq, ahead_val, Nat.add_assoc]
  unfold srcM rowM
  congr 1
  simp only [h]

/-- A block's copy is worth the same units whichever block it is. -/
theorem credit_inM (c : Dev nD) (r : Fin 15) : (inM c r).view.dmaCredit = N := rfl
theorem credit_srcM (c : Dev nD) (r : Fin 15) : (srcM c r).view.dmaCredit = N := rfl
theorem credit_colM (c : Dev nD) (sm : DmaSem sig) : (colM c).view.amount (.dma sm) = N := rfl

/-! ## The operations -/

/-- The signal of step `r`; -/
abbrev sigOp (c : Dev nD) (r : Fin 15) : TpuEff nD τ sig (Elt F) Λ₀ .tc PUnit :=
  .semSignal (sigDev c r, .tc) barS (1#32).toInt
/-- the copy: the target's row block of `x` into this device's column block of the target's `full`; -/
abbrev sendOp (c : Dev nD) (r : Fin 15) : TpuEff nD τ sig (Elt F) Λ₀ .tc PUnit :=
  .enqueueDma (srcM c r) (.remote (Dev.tc (sendDev c r)) (colM c) (.dma (sendSm r))) (.dma (landSm c))
    ((Memref.isWhole_whole cc0_stg0_0).wordExact_slice rfl _ (k0_off3_wordsi8 c r))
    ((Memref.isWhole_whole cc0_scratch0).wordExact_slice rfl _ (k0_off2_wordsi8 c)) ⟨⟨rfl, Or.inl rfl⟩, trivial⟩
/-- the wait for the block of the device `r + 1` behind; -/
abbrev recvOp (c : Dev nD) (r : Fin 15) : TpuEff nD τ sig (Elt F) Λ₀ .tc PUnit :=
  .waitDma2 (recvSm c r) anyM (inM c r)
    ((Memref.isWhole_whole cc0_stg0_0).wordExact_slice rfl _ wordsi8_S4096x256_S256x256_0_0)
    ((Memref.isWhole_whole cc0_scratch0).wordExact_slice rfl _ (k0_off7_wordsi8 c r))
/-- the wait for the copy to have left. -/
abbrev leftOp (c : Dev nD) (r : Fin 15) : TpuEff nD τ sig (Elt F) Λ₀ .tc PUnit :=
  .waitDma2 (sendSm r) (colM c) (srcM c r)
    ((Memref.isWhole_whole cc0_scratch0).wordExact_slice rfl _ (k0_off2_wordsi8 c))
    ((Memref.isWhole_whole cc0_stg0_0).wordExact_slice rfl _ (k0_off3_wordsi8 c r))

/-! ## The steps and the loops -/

variable {X : Dev nD → Vec F S4096x256 .i8} {K : Dev nD × Option (Bool × Fin 16) → ℕ}

theorem recvDebt_cons (c : Dev nD) (r : Fin 15) (rs : List (Fin 15)) :
    recvDebt c (r :: rs) = recvDebt c rs + tallyAt (recvCell (c + r.succ) c) () N := by
  unfold recvDebt; rw [List.map_cons, List.sum_cons, add_comm]
theorem barDebt_cons (c : Dev nD) (r : Fin 15) (rs : List (Fin 15)) (O : CellTallies nD τ sig Unit) :
    O + barDebt c (r :: rs) = O + barDebt c rs + tallyAt (barCell (c + r.succ)) () 1 := by
  unfold barDebt; rw [List.map_cons, List.sum_cons, add_comm (tallyAt _ _ _), add_assoc]

/-- The signals: each hands the target its column block of this device's `full`. -/
theorem wp_signals {α : Type} {Q : α → sProp 𝕄} (c : Dev nD) (O : CellTallies nD τ sig Unit) (W : Waits sig Unit) (rs : List (Fin 15)) (k : Prog (TpuEff nD τ sig (Elt F) Λ₀ .tc) α) :
    iprop((records X K ∗ owes (c : Thread nD τ) (O + barDebt c rs) W)
        ∗ bigSepL rs fun r => iprop(dutyTok ER (barCell (c + r.succ)) 0 c ∗ ∃ f, colPts c (c + r.succ) f))
      ⊢ iprop((((records X K ∗ owes (c : Thread nD τ) (O + barDebt c []) W) ∗ bigSepL rs fun _ => iprop(emp))
          -∗ wp frame (wpE (defs₀ (F := F)) 𝒱₀ (c : Thread nD τ) none) Set.univ k Q)
        -∗ wp frame (wpE (defs₀ (F := F)) 𝒱₀ (c : Thread nD τ) none) Set.univ (each (sigOp c) rs k) Q) := by
  refine wp_each (Q := Q) c (I := fun rs => iprop(records X K ∗ owes (c : Thread nD τ) (O + barDebt c rs) W)) (fun r rs k => ?_) rs k
  rw [barDebt_cons]
  unfold sigOp
  rw [sigDev_eq]
  iintro ⟨⟨#HR, HO⟩, Ht, Hf⟩ Hk
  iapply (Rounds.wp_signal 𝒱₀ ER (sched X) (c : Thread nD τ) none (dst := ((c + r.succ : Dev nD) : Thread nD τ)) (κ := K (c + r.succ, none)) (r := 0)
      (d := c) (by rw [duties_bar]; exact Finset.mem_erase.mpr ⟨(ahead_ne c r).symm, Finset.mem_univ _⟩)
      ((amount_bar X (c + r.succ) c).trans (by decide)) () (O + barDebt c rs) rfl) $$ [HO Ht Hf]
  · isplitr; · iapply (inv_bar (c + r.succ)); iexact HR
    isplitl [HO]; · iexact HO
    isplitl [Ht]; · iexact Ht
    isplitl [Hf]
    · rw [payload_bar]; unfold barPay
      isplitl [Hf]; · iexact Hf
      iapply (reached_recv c (c + r.succ)); iexact HR
    · iapply (reached_bar (c + r.succ)); iexact HR
  iintro HO
  iapply Hk
  isplitl [HO]
  · isplitr; · iexact HR
    iexact HO
  iempintro

/-- One copy. -/
theorem wp_copy {α : Type} {Q : α → sProp 𝕄} (c t : Dev nD) (j : Fin 16) (hj : j ≠ 0) (ht : t = c + j) (hc : c ≠ t) {src : Memref sig .tc .vmem S256x256 .i8} (hs : src = rowM t)
    {n : Dev nD} (hn : n = t) {sm sm' : DmaSem sig} (hsm : sm = sendS j) (hsm' : sm' = recvS c)
    {hsc : (colM c : Memref sig (Dev.tc n : Thread nD τ).2.kind .vmem S256x256 .i8).view.ref.isScScratch = false}
    {hsrc : src.view.WordExact} {hdst : (colM c).view.WordExact}
    {hsem : DmaTarget.Typed .vmem (.dma sm') (.remote (Dev.tc n : Thread nD τ) (colM c) (.dma sm) hsc)}
    (O : CellTallies nD τ sig Unit) (W : Waits sig Unit) (k : PUnit → Prog (TpuEff nD τ sig (Elt F) Λ₀ .tc) α) :
    iprop(records X K ∗ owes (c : Thread nD τ) (O + tallyAt (recvCell t c) () N) W ∗ rowPts c t (X c) ∗ (∃ f, colPts t c f)
        ∗ dutyTok ER (sendCell c j) 0 0 ∗ dutyTok ER (recvCell t c) 0 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) (colM c) (.dma sm) hsc) (.dma sm') hsrc hdst hsem) k) Q) := by
  subst hs hn hsm hsm'
  iintro ⟨#HR, HO, Hx, ⟨%f, Hf⟩, HtS, HtV⟩ Hk
  unfold rowPts colPts
  iapply (Rounds.wp_send_pointsTo 𝒱₀ ER (sched X) (c : Thread nD τ) none (κ₁ := K (c, some (false, j))) (κ₂ := K (n, some (true, c)))
    (r₁ := 0) (r₂ := 0) (d₁ := 0) (d₂ := 0) (fd := f) (fs := X c)
    (by rw [duties_send X c j hj]; exact Finset.mem_singleton_self _) (by rw [duties_recv X n c hc]; exact Finset.mem_singleton_self _)
    () () N (credit_colM c (recvS c)) (amount_send X c j 0) (amount_recv X n c 0) O rfl (W := W)
    (by rw [payload_send, ← ht]; exact BI.Entails.refl _)
    (by
      rw [payload_recv]; unfold colPts
      exact Entails.of_eq (pointsTo_congr fun i hi => landed_eq X n c f i hi))) $$ [HO Hx Hf HtS HtV]
  · isplitr; · iapply (inv_send c j); iexact HR
    isplitr; · iapply (inv_recv n c); iexact HR
    isplitl [Hx]; · iexact Hx
    isplitl [Hf]; · iexact Hf
    isplitl [HO]; · iexact HO
    isplitl [HtS]; · iexact HtS
    isplitr; · iapply (reached_send c j); iexact HR
    isplitl [HtV]; · iexact HtV
    iapply (reached_recv n c); iexact HR
  iexact Hk

/-- The copies. -/
theorem wp_sends {α : Type} {Q : α → sProp 𝕄} (c : Dev nD) (W : Waits sig Unit) (rs : List (Fin 15)) (k : Prog (TpuEff nD τ sig (Elt F) Λ₀ .tc) α) :
    iprop((records X K ∗ owes (c : Thread nD τ) (recvDebt c rs) W)
        ∗ bigSepL rs fun r => iprop(rowPts c (c + r.succ) (X c) ∗ (∃ f, colPts (c + r.succ) c f)
            ∗ dutyTok ER (sendCell c r.succ) 0 0 ∗ dutyTok ER (recvCell (c + r.succ) c) 0 0))
      ⊢ iprop((((records X K ∗ owes (c : Thread nD τ) (recvDebt c []) W) ∗ bigSepL rs fun r => cred (tallyAt (sendCell c r.succ) () N))
          -∗ wp frame (wpE (defs₀ (F := F)) 𝒱₀ (c : Thread nD τ) none) Set.univ k Q)
        -∗ wp frame (wpE (defs₀ (F := F)) 𝒱₀ (c : Thread nD τ) none) Set.univ (each (sendOp c) rs k) Q) := by
  refine wp_each (Q := Q) c (I := fun rs => iprop(records X K ∗ owes (c : Thread nD τ) (recvDebt c rs) W)) (fun r rs k => ?_) rs k
  rw [recvDebt_cons]
  iintro ⟨⟨#HR, HO⟩, Hx, Hf, HtS, HtV⟩ Hk
  iapply (wp_copy (X := X) (K := K) c (c + r.succ) r.succ (Fin.succ_ne_zero r) rfl (ahead_ne c r).symm (srcM_eq c r) (sendDev_eq c r) (sendSm_eq r) (landSm_eq c)
    (recvDebt c rs) W (fun _ => k)) $$ [HO Hx Hf HtS HtV]
  · isplitr; · iexact HR
    isplitl [HO]; · iexact HO
    isplitl [Hx]; · iexact Hx
    isplitl [Hf]; · iexact Hf
    isplitl [HtS] <;> iassumption
  iintro ⟨Hc, HO⟩
  iapply Hk
  isplitl [HO]
  · isplitr; · iexact HR
    iexact HO
  iexact Hc

/-- One wait for the block of device `s`: it comes at its final contents, and the semaphore is done with. -/
theorem wp_arrival {α : Type} {Q : α → sProp 𝕄} (c s : Dev nD) (hs : s ≠ c) {sm : DmaSem sig} (hsm : sm = recvS s) {src dst : Memref sig .tc .vmem S256x256 .i8}
    (hN : dst.view.dmaCredit = N) {hsrc : src.view.WordExact} {hdst : dst.view.WordExact}
    (k : PUnit → Prog (TpuEff nD τ sig (Elt F) Λ₀ .tc) α) :
    iprop(records X K ∗ (∃ W, owes (c : Thread nD τ) 0 W) ∗ cred (tallyAt (recvCell c s) () N) ∗ atPos ER (recvCell c s) 0 ∅ 0)
      ⊢ iprop((((∃ W, owes (c : Thread nD τ) 0 W) ∗ colPts c s (gathered X c) ∗ semVal (recvCell c s) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  iintro ⟨#HR, ⟨%W, HO⟩, Hc, Hat⟩ Hk
  iapply (Rounds.wp_wait_rest_token 𝒱₀ ER (sched X) (c : Thread nD τ) none (κ := K (c, some (true, s))) (k' := N)
      (fun Kt => (wpE_waitDma2_eq 𝒱₀ (c : Thread nD τ) none Set.univ Kt).trans (by rw [hN])) (Set.mem_univ _) () (O := 0) (W := W) (R := 0) (m := 0) (T := ∅)
      (by rw [Nat.zero_add, expect_recv X c s hs])) $$ [Hc HO Hat]
  · isplitr; · iapply (inv_recv c s); iexact HR
    isplitl [Hc]; · iexact Hc
    isplitl [HO]; · iexact HO
    isplitr; · rw [MayWait_zero]; iempintro
    iexact Hat
  iintro ⟨HO, Hat, -, Hpay⟩
  ihave Hf := (Entails.of_eq (rest_recv X c s hs)) $$ Hpay
  imod (Rounds.cell_close (Es := Set.univ) ER (sched X) (Set.mem_univ (K (c, some (true, s)))) (fun h => h) (R := 0 + 1) (duties_later X (recvCell c s))) $$ [Hat] with Hz
  · isplitr; · iapply (inv_recv c s); iexact HR
    iexact Hat
  iapply Hk
  isplitl [HO]; · iexists _; iexact HO
  isplitl [Hf] <;> iassumption

/-- The waits for the blocks that arrive. -/
theorem wp_arrivals {α : Type} {Q : α → sProp 𝕄} (c : Dev nD) (rs : List (Fin 15)) (k : Prog (TpuEff nD τ sig (Elt F) Λ₀ .tc) α) :
    iprop((records X K ∗ ∃ W, owes (c : Thread nD τ) 0 W)
        ∗ bigSepL rs fun r => iprop(cred (tallyAt (recvCell c (c - r.succ)) () N) ∗ atPos ER (recvCell c (c - r.succ)) 0 ∅ 0))
      ⊢ iprop((((records X K ∗ ∃ W, owes (c : Thread nD τ) 0 W)
            ∗ bigSepL rs fun r => iprop(colPts c (c - r.succ) (gathered X c) ∗ semVal (recvCell c (c - r.succ)) 0))
          -∗ wp frame (wpE (defs₀ (F := F)) 𝒱₀ (c : Thread nD τ) none) Set.univ k Q)
        -∗ wp frame (wpE (defs₀ (F := F)) 𝒱₀ (c : Thread nD τ) none) Set.univ (each (recvOp c) rs k) Q) := by
  refine wp_each (Q := Q) c (I := fun _ => iprop(records X K ∗ ∃ W, owes (c : Thread nD τ) 0 W)) (fun r rs k => ?_) rs k
  iintro ⟨⟨#HR, HO⟩, Hc, Hat⟩ Hk
  iapply (wp_arrival (X := X) (K := K) c (c - r.succ) (behind_ne c r) (recvSm_eq c r) (credit_inM c r) (fun _ => k)) $$ [HO Hc Hat]
  · isplitr; · iexact HR
    isplitl [HO]; · iexact HO
    isplitl [Hc] <;> iassumption
  iintro ⟨HO, H⟩
  iapply Hk
  isplitl [HO]
  · isplitr; · iexact HR
    iexact HO
  iexact H

/-- One wait for a copy to have left: the row block comes back, and the semaphore is done with. -/
theorem wp_departure {α : Type} {Q : α → sProp 𝕄} (c : Dev nD) (j : Fin 16) (hj : j ≠ 0) {sm : DmaSem sig} (hsm : sm = sendS j) {src dst : Memref sig .tc .vmem S256x256 .i8}
    (hN : dst.view.dmaCredit = N) {hsrc : src.view.WordExact} {hdst : dst.view.WordExact}
    (k : PUnit → Prog (TpuEff nD τ sig (Elt F) Λ₀ .tc) α) :
    iprop(records X K ∗ (∃ W, owes (c : Thread nD τ) 0 W) ∗ cred (tallyAt (sendCell c j) () N) ∗ atPos ER (sendCell c j) 0 ∅ 0)
      ⊢ iprop((((∃ W, owes (c : Thread nD τ) 0 W) ∗ rowPts c (c + j) (X c) ∗ semVal (sendCell c j) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  iintro ⟨#HR, ⟨%W, HO⟩, Hc, Hat⟩ Hk
  iapply (Rounds.wp_wait_rest_token 𝒱₀ ER (sched X) (c : Thread nD τ) none (κ := K (c, some (false, j))) (k' := N)
      (fun Kt => (wpE_waitDma2_eq 𝒱₀ (c : Thread nD τ) none Set.univ Kt).trans (by rw [hN])) (Set.mem_univ _) () (O := 0) (W := W) (R := 0) (m := 0) (T := ∅)
      (by rw [Nat.zero_add, expect_send X c j hj])) $$ [Hc HO Hat]
  · isplitr; · iapply (inv_send c j); iexact HR
    isplitl [Hc]; · iexact Hc
    isplitl [HO]; · iexact HO
    isplitr; · rw [MayWait_zero]; iempintro
    iexact Hat
  iintro ⟨HO, Hat, -, Hpay⟩
  ihave Hf := (Entails.of_eq (rest_send X c j hj)) $$ Hpay
  imod (Rounds.cell_close (Es := Set.univ) ER (sched X) (Set.mem_univ (K (c, some (false, j)))) (fun h => h) (R := 0 + 1) (duties_later X (sendCell c j))) $$ [Hat] with Hz
  · isplitr; · iapply (inv_send c j); iexact HR
    iexact Hat
  iapply Hk
  isplitl [HO]; · iexists _; iexact HO
  isplitl [Hf] <;> iassumption

/-- The waits for the copies to have left. -/
theorem wp_departures {α : Type} {Q : α → sProp 𝕄} (c : Dev nD) (rs : List (Fin 15)) (k : Prog (TpuEff nD τ sig (Elt F) Λ₀ .tc) α) :
    iprop((records X K ∗ ∃ W, owes (c : Thread nD τ) 0 W)
        ∗ bigSepL rs fun r => iprop(cred (tallyAt (sendCell c r.succ) () N) ∗ atPos ER (sendCell c r.succ) 0 ∅ 0))
      ⊢ iprop((((records X K ∗ ∃ W, owes (c : Thread nD τ) 0 W)
            ∗ bigSepL rs fun r => iprop(rowPts c (c + r.succ) (X c) ∗ semVal (sendCell c r.succ) 0))
          -∗ wp frame (wpE (defs₀ (F := F)) 𝒱₀ (c : Thread nD τ) none) Set.univ k Q)
        -∗ wp frame (wpE (defs₀ (F := F)) 𝒱₀ (c : Thread nD τ) none) Set.univ (each (leftOp c) rs k) Q) := by
  refine wp_each (Q := Q) c (I := fun _ => iprop(records X K ∗ ∃ W, owes (c : Thread nD τ) 0 W)) (fun r rs k => ?_) rs k
  iintro ⟨⟨#HR, HO⟩, Hc, Hat⟩ Hk
  iapply (wp_departure (X := X) (K := K) c r.succ (Fin.succ_ne_zero r) (sendSm_eq r) (credit_srcM c r) (fun _ => k)) $$ [HO Hc Hat]
  · isplitr; · iexact HR
    isplitl [HO]; · iexact HO
    isplitl [Hc] <;> iassumption
  iintro ⟨HO, H⟩
  iapply Hk
  isplitl [HO]
  · isplitr; · iexact HR
    iexact HO
  iexact H

end Cert.Exchange

end
-- ==== Proof.Body.lean ====
/-
# The body of the kernel

The kernel is its four loops with the wait at the barrier, the copy of the device's own block and the product between
them (`prog`, `body_eq`). This module runs it once, at an arbitrary device `c` and over any float values, from what the
launch leaves (`Φ₀`) to its result (`sound_body`).
-/
module

public import proofs.«01_k».proof.Proof.Steps
public import Idealize.ShloMosaic.Lib.Pipeline.Value

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The program -/

/-- The scales' memrefs. -/
abbrev aM : Memref sig .tc .smem S1 .f32 := Memref.whole cc0_stg2_0
abbrev bM : Memref sig .tc .smem S1 .f32 := Memref.whole cc0_stg3_0

abbrev rRow (c : Dev nD) : Rect S4096x256 := Rect.unit (s := S4096x256) (k0_off4 c) S256x256.size (k0_off4_inb c)
abbrev rCol (c : Dev nD) : Rect S256x4096 := Rect.unit (s := S256x4096) (k0_off5 c) S256x256.size (k0_off5_inb c)
abbrev rFull : Rect S256x4096 := Rect.unit (s := S256x4096) ![0, 0] S256x4096.size inb_S256x4096_S256x4096_0_0
abbrev rW : Rect S4096x2048 := Rect.unit (s := S4096x2048) ![0, 0] S4096x2048.size inb_S4096x2048_S4096x2048_0_0
abbrev rS : Rect S1 := Rect.unit (s := S1) ![0] S1.size inb_S1_S1_0
abbrev rO : Rect S256x2048 := Rect.unit (s := S256x2048) ![0, 0] S256x2048.size inb_S256x2048_S256x2048_0_0

/-- The one element of a scale. -/
abbrev one : rS.shape.Idx := Shape.Idx.first (numel1_S1.symm ▸ Nat.one_pos)

variable {α : Type}

/-- The device's own block, copied from `x` to `full`; -/
def ownCopy (c : Dev nD) (k : Prog (TpuEff nD τ sig (Elt F) Λ₀ .tc) α) : Prog (TpuEff nD τ sig (Elt F) Λ₀ .tc) α :=
  .op (.load xM (rRow c).toLoadRect (View.loadsAt_vmem h_S256x256)) fun v =>
  .op (.load fullM (rCol c).toLoadRect (View.loadsAt_vmem h_S256x256)) fun _ =>
  .op (.store fullM (rCol c) (k0_pay1 v) Finset.univ
    (View.stores_vmem h_S256x256 ((Memref.isWhole_whole cc0_scratch0).storeExact_slice rfl _ (k0_off5_packedi8 c)) (fun _ => rfl)) (.inl rfl)) fun _ => k

/-- the product of `full` and the weights, scaled, stored. -/
def product (k : Prog (TpuEff nD τ sig (Elt F) Λ₀ .tc) α) : Prog (TpuEff nD τ sig (Elt F) Λ₀ .tc) α :=
  .op (.load fullM rFull.toLoadRect (View.loadsAt_vmem h_S256x4096)) fun v =>
  .op (.load wM rW.toLoadRect (View.loadsAt_vmem h_S4096x2048)) fun w =>
  .op (.load aM rS.toLoadRect (View.loadsAt_rect (View.loads_smem_one rfl numel1_S1))) fun a =>
  .op (.load bM rS.toLoadRect (View.loadsAt_rect (View.loads_smem_one rfl numel1_S1))) fun b =>
  .op (.load oM rO.toLoadRect (View.loadsAt_vmem h_S256x2048)) fun _ =>
  .op (.store oM rO (k0_pay2 v w (a one) (b one)) Finset.univ (View.stores_vmem_bits_univ h_S256x2048 rfl) (.inl rfl)) fun _ => k

/-- The kernel on device `c`. -/
def prog (c : Dev nD) : Prog (TpuEff nD τ sig (Elt F) Λ₀ .tc) PUnit :=
  each (sigOp c) steps <| .op (.semWait barS (15#32).toInt) fun _ =>
  each (sendOp c) steps <| ownCopy c <| each (recvOp c) steps <| product <| each (leftOp c) steps <| .ret ⟨⟩

/-- The generated body is `prog`. -/
theorem body_eq (c : Dev nD) (Q : PUnit → sProp 𝕄) :
    wp frame (wpE (defs₀ (F := F)) 𝒱₀ (c : Thread nD τ) none) Set.univ
        (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _) cc0_scratch1 cc0_scratch2) Q
      = wp frame (wpE (defs₀ (F := F)) 𝒱₀ (c : Thread nD τ) none) Set.univ (prog c) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel
  simp only [semSignalWord, semWaitWord, smemLoad, smemLoadElt, Prog.lift, Prog.bind_op, Prog.bind_ret, Prog.pure_eq_ret, wp_deviceId]
  unfold prog ownCopy product
  simp only [each]
  rfl

/-! ## What the body starts from and leaves -/

variable (m : (ℓ : Loc nD τ sig) → Buf (Elt F) ℓ)

/-- The staged blocks of device `c`: its columns of `x`, the weights, the two scales. -/
abbrev xb (c : Dev nD) : Vec F S4096x256 .i8 := iblk m c 0 t0_0
abbrev wb (c : Dev nD) : Vec F S4096x2048 .i8 := iblk m c 1 t0_0
abbrev ab (c : Dev nD) : Vec F S1 .f32 := iblk m c 2 t0_0
abbrev bb (c : Dev nD) : Vec F S1 .f32 := iblk m c 3 t0_0

/-- The kernel's result on device `c`. -/
def outAt (c : Dev nD) : Vec F S256x2048 .f32 := k0_pay2 (gathered (xb m) c) (wb m c) (ab m c one) (bb m c one)

/-- The ghost state of device `c`: its positions at its own semaphores, and the tokens of the duties it pays — a unit to each
    barrier, a block to each device, each block read out. -/
def linear (c : Dev nD) : sProp 𝕄 :=
  iprop(atPos ER (barCell c) 0 ∅ 0
    ∗ (bigSep Finset.univ fun j : Fin 16 => atPos ER (sendCell c j) 0 ∅ 0) ∗ (bigSep Finset.univ fun s : Dev nD => atPos ER (recvCell c s) 0 ∅ 0)
    ∗ (bigSep Finset.univ fun d : Dev nD => dutyTok ER (barCell d) 0 c) ∗ (bigSep Finset.univ fun d : Dev nD => dutyTok ER (recvCell d c) 0 0)
    ∗ bigSep Finset.univ fun j : Fin 16 => dutyTok ER (sendCell c j) 0 0)

/-- The buffer `b` of device `c`, whole at `f`. -/
abbrev wholeAt (c : Dev nD) (b : Ref sig .tc) (f : b.ty.Contents (Elt F)) : sProp 𝕄 := (((c : Thread nD τ).loc b) ↦{fullShare} f)

def start (c : Dev nD) : sProp 𝕄 :=
  iprop((∃ K, records (xb m) K ∗ linear c) ∗ cred (tallyAt (barCell c) () 15)
    ∗ (bigSepL steps fun r => cred (tallyAt (recvCell c (c - r.succ)) () N)) ∗ levAts L lv)
def Φ₀ (c : Dev nD) : sProp 𝕄 := iprop(start m c ∗ ∃ f, wholeAt c cc0_scratch0 f)
/-- After the body: `full` gathered, every semaphore of the device at zero. -/
def Φ₁ (c : Dev nD) : sProp 𝕄 :=
  iprop(wholeAt c cc0_scratch0 (gathered (xb m) c) ∗ (bigSep Finset.univ fun j : Fin 16 => semVal (sendCell c j) 0)
    ∗ (bigSep Finset.univ fun s : Dev nD => semVal (recvCell c s) 0) ∗ semVal (barCell c) 0)

/-- The pipeline's data: the kernel has one point, which leaves the inputs and writes `outAt`. -/
def dats (_ : Fin 1) (c : Dev nD) : Dat τ (Elt F) Unit ℕ UU ℕ cfg0 c where
  A w := m ((cfg0.win w).arr.view.loc (c : Thread nD τ))
  after w _ := match w with
    | ⟨0, _⟩ => xb m c
    | ⟨1, _⟩ => wb m c
    | ⟨2, _⟩ => ab m c
    | ⟨3, _⟩ => bb m c
    | ⟨4, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer held by the pipeline is held whole. -/
theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : b.ty.Contents (Elt F), ⌜g = f⌝ ∗ wholeAt c b g) := by
  unfold owns; simp only [Memref.view_whole, View.read_whole, View.set_whole]

/-! ## The reads and writes -/

theorem zero2 : (![0, 0] : Fin 2 → Nat) = fun _ => 0 := by decide
theorem zero1 : (![0] : Fin 1 → Nat) = fun _ => 0 := by decide

theorem read_full (f : Vec F S256x4096 .i8) : fullM.view.readAt (Elt F) rFull.toLoadRect f = f := Memref.readAt_unit_zero (Elt F) cc0_scratch0 zero2 _ f
theorem read_w (f : Vec F S4096x2048 .i8) : wM.view.readAt (Elt F) rW.toLoadRect f = f := Memref.readAt_unit_zero (Elt F) cc0_stg1_0 zero2 _ f
theorem read_a (f : Vec F S1 .f32) : aM.view.readAt (Elt F) rS.toLoadRect f = f := Memref.readAt_unit_zero (Elt F) cc0_stg2_0 zero1 _ f
theorem read_b (f : Vec F S1 .f32) : bM.view.readAt (Elt F) rS.toLoadRect f = f := Memref.readAt_unit_zero (Elt F) cc0_stg3_0 zero1 _ f
theorem write_o (f w : Vec F S256x2048 .f32) : (oM.access rO : View sig .tc _ _ _).write (Elt F) f w Finset.univ = w :=
  Memref.write_access_unit_zero_univ (Elt F) cc0_stg4_0 zero2 _ f w

/-- A read or write of the columns named by `k0_off5` is one of those named by `k0_off2`: the offsets agree. -/
theorem off5_off2 (c : Dev nD) : k0_off5 c = k0_off2 c := (k0_off5_eq c).trans (k0_off2_eq c).symm

theorem pay1_eq (v : Vec F S256x256 .i8) : k0_pay1 v = v := by
  unfold k0_pay1; simp only [shapeCast_self]

/-- The elements of the device's own column block, as the store names them; -/
theorem own_set (c : Dev nD) : (fullM.access (rCol c)).set = colSet c := by
  have h : ∀ (off : Fin S256x4096.rank → Nat) (hb : ∀ a, off a + S256x256.size a ≤ S256x4096.size a), off = k0_off2 c →
      (fullM.access (Rect.unit off S256x256.size hb)).set = colSet c := fun _ _ e => by subst e; rfl
  exact h _ _ (off5_off2 c)
/-- the store leaves `full` at `gathered` there. -/
theorem own_eq (X : Dev nD → Vec F S4096x256 .i8) (c : Dev nD) (f : Vec F S256x4096 .i8) (i : S256x4096.Idx) (hi : i ∈ colSet c) :
    (fullM.access (rCol c)).write (Elt F) f (k0_pay1 ((xM.access (rRow c)).read (Elt F) (X c))) Finset.univ i = gathered X c i := by
  have h : ∀ (off : Fin S256x4096.rank → Nat) (hb : ∀ a, off a + S256x256.size a ≤ S256x4096.size a), off = k0_off2 c →
      (fullM.access (Rect.unit off S256x256.size hb)).write (Elt F) f ((xM.access (rRow c)).read (Elt F) (X c)) Finset.univ i = gathered X c i :=
    fun _ _ e => by subst e; exact landed_eq X c c f i hi
  rw [pay1_eq]; exact h _ _ (off5_off2 c)

/-! ## Conjunctions over the steps -/

theorem steps_zip {M : Type} [URA M] (l : List (Fin 15)) (Φ Ψ : Fin 15 → sProp M) :
    iprop(bigSepL l Φ ∗ bigSepL l Ψ) ⊢ bigSepL l fun r => iprop(Φ r ∗ Ψ r) := by
  induction l with
  | nil => rw [bigSepL_nil]; iintro -; iempintro
  | cons r l ih =>
    rw [bigSepL_cons', bigSepL_cons', bigSepL_cons']
    iintro ⟨⟨H1, H2⟩, H3, H4⟩
    isplitl [H1 H3]; · isplitl [H1] <;> iassumption
    iapply ih; isplitl [H2] <;> iassumption
theorem steps_unzip {M : Type} [URA M] (l : List (Fin 15)) (Φ Ψ : Fin 15 → sProp M) :
    (bigSepL l fun r => iprop(Φ r ∗ Ψ r)) ⊢ iprop(bigSepL l Φ ∗ bigSepL l Ψ) := by
  induction l with
  | nil => rw [bigSepL_nil]; iintro -; isplitr <;> iempintro
  | cons r l ih =>
    rw [bigSepL_cons', bigSepL_cons', bigSepL_cons']
    iintro ⟨⟨H1, H2⟩, H⟩
    ihave H := ih $$ H
    icases H with ⟨H3, H4⟩
    isplitl [H1 H3]; · isplitl [H1] <;> iassumption
    isplitl [H2] <;> iassumption

/-! ## The two straight pieces -/

/-- The copy of the own block. -/
theorem wp_ownCopy {α : Type} {Q : α → sProp 𝕄} (X : Dev nD → Vec F S4096x256 .i8) (c : Dev nD) (k : Prog (TpuEff nD τ sig (Elt F) Λ₀ .tc) α) (f : Vec F S256x4096 .i8) :
    iprop(rowPts c c (X c) ∗ colPts c c f)
      ⊢ iprop(((rowPts c c (X c) ∗ colPts c c (gathered X c)) -∗ wp frame (wpE (defs₀ (F := F)) 𝒱₀ (c : Thread nD τ) none) Set.univ k Q)
        -∗ wp frame (wpE (defs₀ (F := F)) 𝒱₀ (c : Thread nD τ) none) Set.univ (ownCopy c k) Q) := by
  unfold ownCopy rowPts colPts
  iintro ⟨Hx, Hf⟩ Hk
  iapply (wp_load_rect 𝒱₀ (c : Thread nD τ) none Set.univ (m := xM) (r := rRow c) (Finset.Subset.refl _)) $$ Hx; iintro Hx
  iapply (wp_load_rect 𝒱₀ (c : Thread nD τ) none Set.univ (m := fullM) (r := rCol c) (own_set c).subset) $$ Hf; iintro Hf
  iapply (wp_store 𝒱₀ (c : Thread nD τ) none Set.univ (m := fullM) (r := rCol c) (Mk := Finset.univ) (by rw [View.setOn_univ]; exact (own_set c).subset)) $$ Hf; iintro Hf
  iapply Hk
  isplitl [Hx]; · iexact Hx
  iapply (Entails.of_eq (pointsTo_congr fun i hi => own_eq X c f i hi)); iexact Hf

/-- The product. -/
theorem wp_product {α : Type} {Q : α → sProp 𝕄} (c : Dev nD) (k : Prog (TpuEff nD τ sig (Elt F) Λ₀ .tc) α) (g : Vec F S256x4096 .i8) (w : Vec F S4096x2048 .i8)
    (a b : Vec F S1 .f32) (o : Vec F S256x2048 .f32) :
    iprop(wholeAt c cc0_scratch0 g ∗ wholeAt c cc0_stg1_0 w ∗ wholeAt c cc0_stg2_0 a ∗ wholeAt c cc0_stg3_0 b ∗ wholeAt c cc0_stg4_0 o)
      ⊢ iprop(((wholeAt c cc0_scratch0 g ∗ wholeAt c cc0_stg1_0 w ∗ wholeAt c cc0_stg2_0 a ∗ wholeAt c cc0_stg3_0 b
            ∗ wholeAt c cc0_stg4_0 (k0_pay2 g w (a one) (b one))) -∗ wp frame (wpE (defs₀ (F := F)) 𝒱₀ (c : Thread nD τ) none) Set.univ k Q)
        -∗ wp frame (wpE (defs₀ (F := F)) 𝒱₀ (c : Thread nD τ) none) Set.univ (product k) Q) := by
  unfold product
  iintro ⟨Hg, Hw, Ha, Hb, Ho⟩ Hk
  iapply (wp_load 𝒱₀ (c : Thread nD τ) none Set.univ (m := fullM) (Finset.subset_univ _)) $$ Hg; iintro Hg
  rw [read_full]
  iapply (wp_load 𝒱₀ (c : Thread nD τ) none Set.univ (m := wM) (Finset.subset_univ _)) $$ Hw; iintro Hw
  rw [read_w]
  iapply (wp_load 𝒱₀ (c : Thread nD τ) none Set.univ (m := aM) (Finset.subset_univ _)) $$ Ha; iintro Ha
  rw [read_a]
  iapply (wp_load 𝒱₀ (c : Thread nD τ) none Set.univ (m := bM) (Finset.subset_univ _)) $$ Hb; iintro Hb
  rw [read_b]
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_o]
  iapply Hk
  isplitl [Hg]; · iexact Hg
  isplitl [Hw]; · iexact Hw
  isplitl [Ha]; · iexact Ha
  isplitl [Hb] <;> iassumption

/-! ## The run of the body -/

def bodyPost (c : Dev nD) : sProp 𝕄 :=
  iprop(Φ₁ m c ∗ (∃ W, owes (c : Thread nD τ) 0 W) ∗ wholeAt c cc0_stg0_0 (xb m c) ∗ wholeAt c cc0_stg1_0 (wb m c) ∗ wholeAt c cc0_stg2_0 (ab m c)
    ∗ wholeAt c cc0_stg3_0 (bb m c) ∗ wholeAt c cc0_stg4_0 (outAt m c))

set_option maxHeartbeats 1000000 in
/-- The kernel on device `c`, from the launch's resources and the staged inputs, ends with the result stored, the inputs as they were, nothing owed
    and every semaphore of the device at zero. -/
theorem sound_prog (c : Dev nD) (W : Waits sig Unit) (o : Vec F S256x2048 .f32) (Q : PUnit → sProp 𝕄) :
    iprop(Φ₀ m c ∗ owes (c : Thread nD τ) (O₀ c) W ∗ wholeAt c cc0_stg0_0 (xb m c) ∗ wholeAt c cc0_stg1_0 (wb m c) ∗ wholeAt c cc0_stg2_0 (ab m c)
        ∗ wholeAt c cc0_stg3_0 (bb m c) ∗ wholeAt c cc0_stg4_0 o ∗ (bodyPost m c -∗ Q ⟨⟩))
      ⊢ wp frame (wpE (defs₀ (F := F)) 𝒱₀ (c : Thread nD τ) none) Set.univ (prog c) Q := by
  unfold Φ₀ start linear prog
  iintro ⟨⟨⟨⟨%K, #HR, HatB, HatS, HatV, HtB, HtV, HtS⟩, HcB, HcV, #Hlev⟩, ⟨%f, Hf⟩⟩, HO, Hx, Hw, Ha, Hb, Ho, Hk⟩
  -- the blocks and the tokens, one per step
  ihave Hf := (Entails.of_eq ((full_blocks c f).trans (bigSep_ahead c _))) $$ Hf
  icases Hf with ⟨Hfc, Hf⟩
  ihave Hx := (Entails.of_eq ((x_blocks c (xb m c)).trans (bigSep_ahead c _))) $$ Hx
  icases Hx with ⟨Hxc, Hx⟩
  ihave HtB := (Entails.of_eq (bigSep_ahead c _)) $$ HtB
  icases HtB with ⟨-, HtB⟩
  ihave HtV := (Entails.of_eq (bigSep_ahead c _)) $$ HtV
  icases HtV with ⟨-, HtV⟩
  ihave HtS := (Entails.of_eq (bigSep_index _)) $$ HtS
  icases HtS with ⟨-, HtS⟩
  ihave HatS := (Entails.of_eq (bigSep_index _)) $$ HatS
  icases HatS with ⟨HatS0, HatS⟩
  ihave HatV := (Entails.of_eq (bigSep_behind c _)) $$ HatV
  icases HatV with ⟨HatV0, HatV⟩
  -- the signals
  iapply (wp_signals (X := xb m) (K := K) c (recvDebt c steps) W steps _) $$ [HO HtB Hf]
  · isplitl [HO]
    · isplitr; · iexact HR
      iexact HO
    iapply (steps_zip steps _ _)
    isplitl [HtB]; · iexact HtB
    iapply (bigSepL_mono fun r _ => (exists_intro (Φ := fun f => (colPts c (c + r.succ) f : sProp 𝕄)) f)); iexact Hf
  iintro ⟨⟨-, HO⟩, -⟩
  rw [show barDebt c [] = 0 from rfl, add_zero]
  -- the wait at the barrier: this device's column block of every other device's `full`
  iapply (Rounds.wp_wait_rest_token 𝒱₀ ER (sched (xb m)) (c : Thread nD τ) none (κ := K (c, none))
      (wpE_semWait_eq 𝒱₀ (c : Thread nD τ) none Set.univ) (Set.mem_univ _) () (O := recvDebt c steps) (W := W) (R := 0) (m := 0) (T := ∅)
      (by rw [expect_bar]; decide)) $$ [HcB HO HatB]
  · isplitr; · iapply (inv_bar c); iexact HR
    isplitl [HcB]; · iexact HcB
    isplitl [HO]; · iexact HO
    isplitr; · iapply (mayWait_bar c steps); iexact Hlev
    iexact HatB
  iintro ⟨HO, HatB, -, Hpay⟩
  ihave Hp := (Entails.of_eq ((rest_bar (xb m) c).trans (bigSep_others c _))) $$ Hpay
  unfold barPay
  ihave Hp := (steps_unzip steps (fun r => iprop(∃ f, colPts (c + r.succ) c f)) (fun r => reached ER (recvCell (c + r.succ) c) 0)) $$ Hp
  icases Hp with ⟨Hp, -⟩
  -- the copies
  iapply (wp_sends (X := xb m) (K := K) c _ steps _) $$ [HO Hx Hp HtS HtV]
  · isplitl [HO]
    · isplitr; · iexact HR
      iexact HO
    iapply (steps_zip steps _ _); isplitl [Hx]; · iexact Hx
    iapply (steps_zip steps _ _); isplitl [Hp]; · iexact Hp
    iapply (steps_zip steps _ _); isplitl [HtS] <;> iassumption
  iintro ⟨⟨-, HO⟩, HcS⟩
  rw [show recvDebt c [] = 0 from rfl]
  -- the own block
  iapply (wp_ownCopy (xb m) c _ f) $$ [Hxc Hfc]
  · isplitl [Hxc] <;> iassumption
  iintro ⟨Hxc, Hfc⟩
  -- the blocks that arrive
  iapply (wp_arrivals (X := xb m) (K := K) c steps _) $$ [HO HcV HatV]
  · isplitl [HO]
    · isplitr; · iexact HR
      iexists _; iexact HO
    iapply (steps_zip steps _ _); isplitl [HcV] <;> iassumption
  iintro ⟨⟨-, HO⟩, H⟩
  ihave H := (steps_unzip steps _ _) $$ H
  icases H with ⟨Hf, HzV⟩
  ihave Hf := (Entails.of_eq ((full_blocks c (gathered (xb m) c)).trans (bigSep_behind c _)).symm) $$ [Hfc Hf]
  · isplitl [Hfc] <;> iassumption
  -- the product
  iapply (wp_product c _ (gathered (xb m) c) (wb m c) (ab m c) (bb m c) o) $$ [Hf Hw Ha Hb Ho]
  · isplitl [Hf]; · iexact Hf
    isplitl [Hw]; · iexact Hw
    isplitl [Ha]; · iexact Ha
    isplitl [Hb] <;> iassumption
  iintro ⟨Hf, Hw, Ha, Hb, Ho⟩
  -- the copies that leave
  iapply (wp_departures (X := xb m) (K := K) c steps _) $$ [HO HcS HatS]
  · isplitl [HO]
    · isplitr; · iexact HR
      iexact HO
    iapply (steps_zip steps _ _); isplitl [HcS] <;> iassumption
  iintro ⟨⟨-, HO⟩, H⟩
  ihave H := (steps_unzip steps _ _) $$ H
  icases H with ⟨Hx, HzS⟩
  ihave Hx := (Entails.of_eq ((x_blocks c (xb m c)).trans (bigSep_ahead c _)).symm) $$ [Hxc Hx]
  · isplitl [Hxc] <;> iassumption
  -- the barrier and the two unused semaphores
  imod (Rounds.cell_close (Es := Set.univ) ER (sched (xb m)) (Set.mem_univ (K (c, none))) (fun h => h) (R := 0 + 1) (duties_later (xb m) (barCell c))) $$ [HatB] with HzB
  · isplitr; · iapply (inv_bar c); iexact HR
    iexact HatB
  imod (Rounds.cell_close (Es := Set.univ) ER (sched (xb m)) (Set.mem_univ (K (c, some (false, 0)))) (fun h => h) (R := 0) (fun r _ => duties_send_unused (xb m) c r)) $$ [HatS0] with HzS0
  · isplitr; · iapply (inv_send c 0); iexact HR
    iexact HatS0
  imod (Rounds.cell_close (Es := Set.univ) ER (sched (xb m)) (Set.mem_univ (K (c, some (true, c)))) (fun h => h) (R := 0) (fun r _ => duties_recv_unused (xb m) c r)) $$ [HatV0] with HzV0
  · isplitr; · iapply (inv_recv c c); iexact HR
    iexact HatV0
  rw [wp_ret]; imodintro
  iapply Hk
  unfold bodyPost Φ₁
  rw [bigSep_index, bigSep_behind c]
  isplitl [Hf HzS0 HzS HzV0 HzV HzB]
  · isplitl [Hf]; · iexact Hf
    isplitl [HzS0 HzS]; · isplitl [HzS0] <;> iassumption
    isplitl [HzV0 HzV]; · isplitl [HzV0] <;> iassumption
    iexact HzB
  isplitl [HO]; · iexact HO
  isplitl [Hx]; · iexact Hx
  isplitl [Hw]; · iexact Hw
  isplitl [Ha]; · iexact Ha
  isplitl [Hb]; · iexact Hb
  iexact Ho

/-- What the pipeline hands the kernel at its one point, the windows one by one. -/
def pointPre (c : Dev nD) : sProp 𝕄 :=
  iprop(Φ₀ m c ∗ (dats m 0 c).owesAt () t0_0.castSucc
    ∗ (∃ d, ∃ g, ⌜g = (dats m 0 c).before (0 : Fin 5) t0_0 d⌝ ∗ wholeAt c cc0_stg0_0 g)
    ∗ (∃ d, ∃ g, ⌜g = (dats m 0 c).before (1 : Fin 5) t0_0 d⌝ ∗ wholeAt c cc0_stg1_0 g)
    ∗ (∃ d, ∃ g, ⌜g = (dats m 0 c).before (2 : Fin 5) t0_0 d⌝ ∗ wholeAt c cc0_stg2_0 g)
    ∗ (∃ d, ∃ g, ⌜g = (dats m 0 c).before (3 : Fin 5) t0_0 d⌝ ∗ wholeAt c cc0_stg3_0 g)
    ∗ (∃ d, ∃ g, ⌜g = (dats m 0 c).before (4 : Fin 5) t0_0 d⌝ ∗ wholeAt c cc0_stg4_0 g))
/-- What it takes back. -/
def pointPost (c : Dev nD) : sProp 𝕄 :=
  iprop(Φ₁ m c ∗ (dats m 0 c).owesAt () t0_0.succ
    ∗ (∃ g, ⌜g = xb m c⌝ ∗ wholeAt c cc0_stg0_0 g) ∗ (∃ g, ⌜g = wb m c⌝ ∗ wholeAt c cc0_stg1_0 g)
    ∗ (∃ g, ⌜g = ab m c⌝ ∗ wholeAt c cc0_stg2_0 g) ∗ (∃ g, ⌜g = bb m c⌝ ∗ wholeAt c cc0_stg3_0 g)
    ∗ (∃ g, ⌜g = outAt m c⌝ ∗ wholeAt c cc0_stg4_0 g))

/-- The staged inputs at the point are the blocks of their arrays. -/
theorem before0 (c : Dev nD) (d) : (dats m 0 c).before (0 : Fin 5) t0_0 d = xb m c := by
  unfold Dat.before; rw [if_pos (fetch0_0 t0_0)]; rfl
theorem before1 (c : Dev nD) (d) : (dats m 0 c).before (1 : Fin 5) t0_0 d = wb m c := by
  unfold Dat.before; rw [if_pos (fetch0_1 t0_0)]; rfl
theorem before2 (c : Dev nD) (d) : (dats m 0 c).before (2 : Fin 5) t0_0 d = ab m c := by
  unfold Dat.before; rw [if_pos (fetch0_2 t0_0)]; rfl
theorem before3 (c : Dev nD) (d) : (dats m 0 c).before (3 : Fin 5) t0_0 d = bb m c := by
  unfold Dat.before; rw [if_pos (fetch0_3 t0_0)]; rfl

/-- The kernel at its point: from `pointPre` to `pointPost`. -/
theorem sound_body (c : Dev nD) :
    pointPre m c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) cc0_scratch1 cc0_scratch2)
      (fun _ => pointPost m c) := by
  rw [body_eq]
  unfold pointPre Dat.owesAt Pipeline.owesWithin
  iintro ⟨HΦ, ⟨%W, %hW, HO⟩, ⟨%d0, %g0, %h0, Hx⟩, ⟨%d1, %g1, %h1, Hw⟩, ⟨%d2, %g2, %h2, Ha⟩, ⟨%d3, %g3, %h3, Hb⟩, ⟨%d4, %g4, %h4, Ho⟩⟩
  rw [before0] at h0; rw [before1] at h1; rw [before2] at h2; rw [before3] at h3
  subst h0; subst h1; subst h2; subst h3
  iapply (sound_prog m c W g4 fun _ => pointPost m c)
  isplitl [HΦ]; · iexact HΦ
  isplitl [HO]; · iexact HO
  isplitl [Hx]; · iexact Hx
  isplitl [Hw]; · iexact Hw
  isplitl [Ha]; · iexact Ha
  isplitl [Hb]; · iexact Hb
  isplitl [Ho]; · iexact Ho
  unfold bodyPost pointPost Dat.owesAt Pipeline.owesWithin
  iintro ⟨HΦ, ⟨%W', HO⟩, Hx, Hw, Ha, Hb, Ho⟩
  isplitl [HΦ]; · iexact HΦ
  isplitl [HO]
  · iexists W'
    isplitr; · ipureintro; exact fun _ _ => Or.inl trivial
    iexact HO
  isplitl [Hx]; · iexists _; isplitr; · (ipureintro; rfl)
                  iexact Hx
  isplitl [Hw]; · iexists _; isplitr; · (ipureintro; rfl)
                  iexact Hw
  isplitl [Ha]; · iexists _; isplitr; · (ipureintro; rfl)
                  iexact Ha
  isplitl [Hb]; · iexists _; isplitr; · (ipureintro; rfl)
                  iexact Hb
  iexists _; isplitr; · (ipureintro; rfl)
  iexact Ho

/-- The pipeline's obligation on the body of device `c`. -/
theorem body_obligation (c : Dev nD) : BodyObligation (dats m 0 c) (defs₀ (F := F)) 𝒱₀ () Set.univ := fun t => by
  rw [fin_N0 t]
  rw [bigSep_W0, bigSep_W0]
  simp only [owns_whole]
  exact sound_body m c

end Cert.Exchange

end
-- ==== Proof.Launch.lean ====
/-
# The launch

At launch every device's semaphores are put under the protocol at once, their duty tokens dealt to the devices that
pay them, and the units the devices owe handed out as credit to those that wait. From there every device runs its body
(`Body.lean`), and every run of the program ends with the results computed (`run_main`).
-/
module

public import proofs.«01_k».proof.Proof.Body
public import Idealize.ShloMosaic.Lib.Pipeline.CollectiveSegs

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and the tokens, listed -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by
  rintro (_ | ⟨a, i⟩) (_ | ⟨b, j⟩) h
  · rfl
  · cases h
  · cases h
  · have h' := congrArg role h
    cases a <;> cases b <;> simp only [csem, osem, role_send, role_recv, if_true, if_false, Bool.false_eq_true, reduceCtorEq] at h'
    · injection h' with h'; rw [h']
    · injection h' with h'; rw [h']

theorem cellAt_injective : Function.Injective cellAt := by
  rintro ⟨c, k⟩ ⟨c', k'⟩ h
  have h1 : c = c' := congrArg (fun g : GSem nD τ sig => g.1.1) h
  subst h1
  have h2 : k = k' := csem_injective (congrArg Prod.snd h)
  rw [h2]
def allCells : Finset (GSem nD τ sig) := Finset.univ.map ⟨cellAt, cellAt_injective⟩

/-- The duty tokens made: at the barrier of `c` (`none`) one for each device, at send semaphore `i` (`some false`) and at
    receive semaphore `i` (`some true`) one. -/
abbrev tokAt (x : Dev nD × Option Bool × Fin 16) : GSem nD τ sig × ℕ × Dev nD := match x.2.1 with
  | none => (barCell x.1, 0, x.2.2)
  | some b => (cellAt (x.1, some (b, x.2.2)), 0, 0)
theorem tokAt_injective : Function.Injective tokAt := by
  rintro ⟨c, k, i⟩ ⟨c', k', i'⟩ h
  rcases k with _ | b <;> rcases k' with _ | b'
  · have h1 : c = c' := congrArg (fun g : GSem nD τ sig × ℕ × Dev nD => g.1.1.1) h
    have h2 : i = i' := congrArg (fun g : GSem nD τ sig × ℕ × Dev nD => g.2.2) h
    rw [h1, h2]
  · have h1 := congrArg (fun g : GSem nD τ sig × ℕ × Dev nD => g.1.2) h
    cases h1
  · have h1 := congrArg (fun g : GSem nD τ sig × ℕ × Dev nD => g.1.2) h
    cases h1
  · have h1 := cellAt_injective (congrArg Prod.fst h)
    injection h1 with hc hk; injection hk with hk; injection hk with hb hi
    have hc : c = c' := hc
    have hi : i = i' := hi
    rw [hc, hb, hi]
def allToks : Finset (GSem nD τ sig × ℕ × Dev nD) := Finset.univ.map ⟨tokAt, tokAt_injective⟩

def u₀ : UU := (initOf (Pipeline.cells cfgs cellOf_inj) (Pipeline.launchToks cfgs cellOf_inj), initOf allCells allToks)

/-- A conjunction over a device's semaphores: the barrier, the send semaphores, the receive semaphores. -/
theorem bigSep_sems {M : Type} [URA M] (Φ : Option (Bool × Fin 16) → sProp M) :
    bigSep Finset.univ Φ = iprop(Φ none ∗ (bigSep Finset.univ fun j : Fin 16 => Φ (some (false, j))) ∗ bigSep Finset.univ fun s : Fin 16 => Φ (some (true, s))) := by
  have h2 (Ψ : Bool → sProp M) : bigSep Finset.univ Ψ = iprop(Ψ false ∗ Ψ true) := bigSep_univ_eq_bigSepL [false, true] (by decide) (by decide) Ψ
  have h : Finset.univ.erase (none : Option (Bool × Fin 16)) = (Finset.univ : Finset (Bool × Fin 16)).map Function.Embedding.some := by
    ext k; cases k <;> simp
  rw [bigSep_univ_split none, h, bigSep_map, bigSep_univ_prod, h2]; rfl
theorem bigSep_kinds {M : Type} [URA M] (Φ : Option Bool → sProp M) : bigSep Finset.univ Φ = iprop(Φ none ∗ Φ (some false) ∗ Φ (some true)) :=
  bigSep_univ_eq_bigSepL [none, some false, some true] (by decide) (by decide) Φ

/-! ## Every device's semaphores under the protocol -/

/-- The duty tokens at device `c`'s own semaphores. -/
def toks (c : Dev nD) : sProp 𝕄 :=
  iprop((bigSep Finset.univ fun s : Dev nD => dutyTok ER (barCell c) 0 s) ∗ (bigSep Finset.univ fun j : Fin 16 => dutyTok ER (sendCell c j) 0 0)
    ∗ bigSep Finset.univ fun s : Dev nD => dutyTok ER (recvCell c s) 0 0)

/-- What the launch's ghost state gives device `c`, -/
def G (c : Dev nD) : sProp 𝕄 :=
  iprop((bigSep Finset.univ fun k => roundState ER (sched (xb m)) (cellAt (c, k)) 0)
    ∗ ((bigSep Finset.univ fun k => atPos ER (cellAt (c, k)) 0 ∅ 0) ∗ bigSep Finset.univ fun k => reached ER (cellAt (c, k)) 0) ∗ toks c)
/-- and what it becomes once all the semaphores are under the protocol. -/
def G' (c : Dev nD) : sProp 𝕄 := iprop(∃ K, records (xb m) K ∗ linear c)

theorem fund_all : BI.own (ER (initOf allCells allToks)) ⊢ (|==> bigSep Finset.univ (G m) : sProp 𝕄) := by
  have hc (Φ : GSem nD τ sig → sProp 𝕄) : bigSep allCells Φ = bigSep Finset.univ fun c : Dev nD => bigSep Finset.univ fun k => Φ (cellAt (c, k)) := by
    unfold allCells; rw [bigSep_map, bigSep_univ_prod]; rfl
  have ht : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_kinds]; rfl
  iintro H
  imod (Rounds.fund ER (sched (xb m)) allCells allToks) $$ H with ⟨Hst, Hr, Hat, Htok⟩
  imodintro
  ihave Hst := (Entails.of_eq (hc fun g => roundState ER (sched (xb m)) g 0)) $$ Hst
  ihave Hat := (Entails.of_eq (hc fun g => atPos ER g 0 ∅ 0)) $$ Hat
  ihave Hr := (Entails.of_eq (hc fun g => reached ER g 0)) $$ Hr
  ihave Htok := (Entails.of_eq ht) $$ Htok
  unfold G; simp only [bigSep_sep']
  isplitl [Hst]; · iexact Hst
  isplitl [Hat Hr]
  · isplitl [Hat] <;> iassumption
  iexact Htok

/-- A device's own semaphores are its send and its receive semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 16 => semVal (sendCell c j) 0) ∗ bigSep Finset.univ fun s : Fin 16 => semVal (recvCell c s) 0) := by
  unfold Pipeline.ownSems0
  rw [bigSep_univ_prod, bigSep_univ_eq_bigSepL [false, true] (by decide) (by decide)]; rfl
/-- the barrier is the one other. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Device `c`'s semaphores at zero come under invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (xb m)) κ (cellAt (c, k))))
          ∗ ((bigSep Finset.univ fun k => atPos ER (cellAt (c, k)) 0 ∅ 0) ∗ bigSep Finset.univ fun k => reached ER (cellAt (c, k)) 0) ∗ toks c) := by
  have hz : iprop(Pipeline.ownSems0 (Ix := Unit) (Name := ℕ) (U := UU) (Lvl := ℕ) (Val := Elt F) (τ := τ) osem c ∗ unscopedSems0 c)
      ⊢ (bigSep Finset.univ fun k => semVal (cellAt (c, k)) 0 : sProp 𝕄) := by
    rw [ownSems0_eq, unscopedSems0_eq, bigSep_sems]
    iintro ⟨H, HB⟩
    isplitl [HB]; · iexact HB
    iexact H
  have hi : iprop((bigSep Finset.univ fun k => semVal (cellAt (c, k)) 0) ∗ bigSep Finset.univ fun k => roundState ER (sched (xb m)) (cellAt (c, k)) 0)
      ⊢ (|={Set.univ}=> bigSep Finset.univ fun k => iprop(∃ κ : ℕ, cellInv ER (sched (xb m)) κ (cellAt (c, k))) : sProp 𝕄) := by
    rw [← bigSep_sep']
    exact (bigSep_mono fun k _ => (Rounds.body_intro ER (sched (xb m)) (cellAt (c, k))).trans inv_alloc).trans (bigSep_fupd _ _)
  unfold G
  iintro ⟨Ho, Hu, Hst, Hrest⟩
  ihave Hv := hz $$ [Ho Hu]
  · isplitl [Ho] <;> iassumption
  imod hi $$ [Hv Hst] with Hinv
  · isplitl [Hv] <;> iassumption
  imodintro
  isplitl [Hinv] <;> iassumption

/-- The tokens made at the devices' own semaphores are the tokens the devices pay with: a barrier's go each to its device, a
    receive semaphore's to the device it receives from. -/
theorem toks_deal : (bigSep Finset.univ fun c : Dev nD => (toks c : sProp 𝕄))
    = bigSep Finset.univ fun c : Dev nD => iprop((bigSep Finset.univ fun d : Dev nD => dutyTok ER (barCell d) 0 c)
        ∗ (bigSep Finset.univ fun j : Fin 16 => dutyTok ER (sendCell c j) 0 0) ∗ bigSep Finset.univ fun d : Dev nD => dutyTok ER (recvCell d c) 0 0) := by
  unfold toks
  simp only [bigSep_sep']
  rw [bigSep_univ_comm fun (c s : Dev nD) => (dutyTok ER (barCell c) 0 s : sProp 𝕄), bigSep_univ_comm fun (c s : Dev nD) => (dutyTok ER (recvCell c s) 0 0 : sProp 𝕄)]

/-- A device's positions and the tokens it pays with are its ghost state. -/
theorem linear_intro (c : Dev nD) :
    iprop((bigSep Finset.univ fun k => atPos ER (cellAt (c, k)) 0 ∅ 0) ∗ (bigSep Finset.univ fun d : Dev nD => dutyTok ER (barCell d) 0 c)
        ∗ (bigSep Finset.univ fun j : Fin 16 => dutyTok ER (sendCell c j) 0 0) ∗ bigSep Finset.univ fun d : Dev nD => dutyTok ER (recvCell d c) 0 0)
      ⊢ (linear c : sProp 𝕄) := by
  rw [bigSep_sems]
  unfold linear
  iintro ⟨⟨HB, HS, HV⟩, HtB, HtS, HtV⟩
  isplitl [HB]; · iexact HB
  isplitl [HS]; · iexact HS
  isplitl [HV]; · iexact HV
  isplitl [HtB]; · iexact HtB
  isplitl [HtV] <;> iassumption

/-- Beside a persistent fact, a conjunction goes to another conjunct by conjunct. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans ((Entails.of_eq (bigSep_sep' S _ _).symm).trans (bigSep_mono h))

theorem regroup :
    (bigSep Finset.univ fun c : Dev nD => iprop((bigSep Finset.univ fun k => iprop(∃ κ : ℕ, cellInv ER (sched (xb m)) κ (cellAt (c, k))))
          ∗ ((bigSep Finset.univ fun k => atPos ER (cellAt (c, k)) 0 ∅ 0) ∗ bigSep Finset.univ fun k => reached ER (cellAt (c, k)) 0) ∗ toks c) : sProp 𝕄)
      ⊢ bigSep Finset.univ (G' m) := by
  rw [bigSep_sep', bigSep_sep', bigSep_sep', toks_deal,
    ← bigSep_univ_prod (fun ck : Dev nD × Option (Bool × Fin 16) => iprop(∃ κ : ℕ, cellInv ER (sched (xb m)) κ (cellAt ck))),
    ← bigSep_univ_prod (fun ck : Dev nD × Option (Bool × Fin 16) => (reached ER (cellAt ck) 0 : sProp 𝕄))]
  iintro ⟨HI, ⟨Hat, #HR⟩, Htok⟩
  ihave HK := (BI.bigSep_exists_pi Finset.univ (fun (ck : Dev nD × Option (Bool × Fin 16)) (κ : ℕ) => (cellInv ER (sched (xb m)) κ (cellAt ck) : sProp 𝕄))) $$ HI
  icases HK with ⟨%K, #HI⟩
  iapply (bigSep_beside (R := records (xb m) K) (Φ := fun c => linear c) fun c _ => (exists_intro (Φ := fun K => iprop(records (xb m) K ∗ linear c)) K))
  isplitr
  · unfold records
    isplitl; · iexact HI
    iexact HR
  · iapply ((Entails.of_eq (bigSep_sep' Finset.univ (fun c : Dev nD => bigSep Finset.univ fun k => (atPos ER (cellAt (c, k)) 0 ∅ 0 : sProp 𝕄)) _).symm).trans
      (bigSep_mono fun c _ => linear_intro c))
    isplitl [Hat] <;> iassumption

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem sum_steps {A : Type} [AddCommMonoid A] (f : Fin 15 → A) : (steps.map f).sum = ∑ r, f r := by rw [Fin.sum_univ_def]; rfl

/-- A sum of debts at a semaphore. -/
theorem debt_at (cell : Fin 15 → GSem nD τ sig) (k : ℕ) (g : GSem nD τ sig) :
    (steps.map fun r => (tallyAt (cell r) () k : CellTallies nD τ sig Unit)).sum g () = ∑ r : Fin 15, if g = cell r then k else 0 := by
  rw [sum_steps, Finset.sum_apply, Finsupp.finset_sum_apply]
  exact Finset.sum_congr rfl fun r _ => by rw [tallyAt_apply]; simp only [and_true]

/-- What device `d` owes at a semaphore. -/
theorem owes_at (d : Dev nD) (g : GSem nD τ sig) :
    O₀ d g () = (∑ r : Fin 15, if g = recvCell (d + r.succ) d then N else 0) + ∑ r : Fin 15, if g = barCell (d + r.succ) then 1 else 0 := by
  unfold O₀ recvDebt barDebt
  rw [Pi.add_apply, Finsupp.add_apply, debt_at fun r => recvCell (d + r.succ) d, debt_at fun r => barCell (d + r.succ)]

theorem bar_eq_iff {a b : Dev nD} : barCell a = barCell b ↔ a = b := ⟨fun h => congrArg (fun g : GSem nD τ sig => g.1.1) h, fun h => h ▸ rfl⟩
theorem recv_eq_iff {a b s t : Dev nD} : recvCell a s = recvCell b t ↔ a = b ∧ s = t :=
  ⟨fun h => ⟨congrArg (fun g : GSem nD τ sig => g.1.1) h, recvS_inj (SemLoc.dma.inj (congrArg Prod.snd h))⟩, fun ⟨h, h'⟩ => by rw [h, h']⟩
theorem bar_ne_recv {a b s : Dev nD} : barCell a ≠ recvCell b s := fun h => by cases congrArg Prod.snd h

/-- Every device but `c` owes its barrier one unit; -/
theorem owed_bar (d c : Dev nD) : O₀ d (barCell c) () = if d = c then 0 else 1 := by
  have h : ∀ d c : Dev nD, (∑ r : Fin 15, if c = d + r.succ then 1 else 0) = if d = c then 0 else 1 := by decide +kernel
  rw [owes_at]
  simp only [bar_eq_iff, bar_ne_recv, if_false, Finset.sum_const_zero, Nat.zero_add, h]
/-- device `s`, and no other, owes receive semaphore `s` of `c` a block. -/
theorem owed_recv (d c s : Dev nD) (hs : s ≠ c) : O₀ d (recvCell c s) () = if d = s then N else 0 := by
  have h : ∀ d c s : Dev nD, s ≠ c → (∑ r : Fin 15, if c = d + r.succ ∧ s = d then 1 else 0) = if d = s then 1 else 0 := by decide +kernel
  rw [owes_at]
  simp only [recv_eq_iff, bar_ne_recv.symm, if_false, Finset.sum_const_zero, Nat.add_zero]
  have e := congrArg (· * N) (h d c s hs)
  simpa only [Finset.sum_mul, ite_mul, Nat.one_mul, Nat.zero_mul] using e

theorem launch_bar (c : Dev nD) :
    tallyOn (barCell c) (launchCredit (Pipeline.owing O₀) 0 (barCell c)) = (tallyAt (barCell c) () 15 : CellTallies nD τ sig Unit) := by
  have h : ∀ c : Dev nD, (∑ d : Dev nD, if d = c then 0 else 1) = 15 := by decide +kernel
  unfold tallyAt; refine congrArg _ (Finsupp.ext fun u => ?_); cases u
  rw [Pipeline.launchCredit_owing, Finsupp.single_eq_same, Finset.sum_congr rfl fun d _ => owed_bar d c, h]

theorem launch_recv (c s : Dev nD) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs, Finset.sum_ite_eq' Finset.univ s fun _ => N,
    if_pos (Finset.mem_univ _)]

/-- Device `c`'s credit: fifteen units at its barrier, a block at each receive semaphore it waits on. -/
theorem creds (c : Dev nD) :
    (Pipeline.launchCred O₀ c : sProp 𝕄) ⊢ iprop(cred (tallyAt (barCell c) () 15) ∗ bigSepL steps fun r => cred (tallyAt (recvCell c (c - r.succ)) () N)) := by
  have hinj : Function.Injective fun r : Fin 15 => (SemLoc.dma (recvS (c - r.succ)) : SemLoc sig) := fun r r' h => by
    have h1 : c - r.succ = c - r'.succ := recvS_inj (SemLoc.dma.inj h)
    revert h1; revert c r r'; decide +kernel
  have hsub : (Finset.univ.map ⟨_, hinj⟩ : Finset (SemLoc sig)) ⊆ Finset.univ.erase (.reg barS) := fun x hx => by
    obtain ⟨r, -, rfl⟩ := Finset.mem_map.mp hx
    exact Finset.mem_erase.mpr ⟨(fun h => by cases h), Finset.mem_univ _⟩
  unfold Pipeline.launchCred
  rw [bigSep_univ_at _ (SemLoc.reg barS), launch_bar]
  refine sep_mono_right ((bigSep_subset hsub).trans ?_)
  rw [bigSep_map, bigSep_univ_eq_bigSepL steps (by decide) (by decide)]
  exact bigSepL_mono fun r _ => by
    rw [← launch_recv c (c - r.succ) (behind_ne c r)]; exact .rfl

/-! ## Into and out of the body -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, HG⟩
  ihave Hc := (creds c) $$ Hcr
  icases Hc with ⟨HB, HV⟩
  imodintro
  isplitl
  · isplitl [HG]; · iexact HG
    isplitl [HB]; · iexact HB
    isplitl [HV] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁
  iintro ⟨Hr, HzS, HzV, HzB⟩
  isplitl [HzB]; · iexact HzB
  isplitl [HzS HzV]
  · isplitl [HzS] <;> iassumption
  iexists _; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> exact fun _ => rfl) _ (by
      rcases t with ⟨_ | _, ht⟩
      · exact Or.inl rfl
      · exact Or.inr rfl)

/-! ## The run -/

/-- Every window's array of every device is what the pipeline's data makes it. -/
def Final : PUnit × MemSt nD τ sig (Elt F) → Prop := fun r =>
  ∀ (c : Dev nD) (w : Fin cfg0.W), r.2.mem ((cfg0.win w).arr.view.loc (c : Thread nD τ)) = (dats m 0 c).arrAt w cfg0.N

/-- For any float values and from any memory with zero counters, every weakly fair execution of the sixteen devices terminates,
    and every final state has each array as `Final` says and every semaphore counter at zero. -/
theorem run_main : θ_run defs (onTc (τ := τ) (main (F := F))) (s₀ m ρ) (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro H
      ihave H := (ownU_pair _ _) $$ H
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Arrays.lean ====
/-
# The arrays before and after the call

Each window of the call is a whole array, staged in one piece: the blocks that the body works on are the device's arguments
(`xb_eq` …), and the result array ends at what the body leaves (`result_eq`).
-/
module

public import proofs.«01_k».proof.Proof.Launch

@[expose] public section

set_option maxRecDepth 16384

noncomputable section

namespace Cert.Exchange

open Cert.KernelIdeal Cert.KernelIdeal.Gen
open Idealize.ShloMosaic Idealize.ShloMosaic.TcCoe
open Idealize.SL.Sem

variable {F : FTy → Type} [FloatOps F] (m : (ℓ : Loc nD τ sig) → Buf (Elt F) ℓ) (c : Dev nD)

theorem xb_eq : xb m c = m ((c.tc : Thread nD τ).loc main_arg0) := by
  funext y
  show m ((c.tc : Thread nD τ).loc main_arg0) ((win0_0.rect t0_0).emb y) = _
  exact congrArg _ (funext fun a => Fin.ext (Pipeline.Window.rect_emb_val_of_index_zero win0_0 t0_0 a rfl y))

theorem wb_eq : wb m c = m ((c.tc : Thread nD τ).loc main_arg1) := by
  funext y
  show m ((c.tc : Thread nD τ).loc main_arg1) ((win0_1.rect t0_0).emb y) = _
  exact congrArg _ (funext fun a => Fin.ext (Pipeline.Window.rect_emb_val_of_index_zero win0_1 t0_0 a rfl y))

theorem ab_eq : ab m c = m ((c.tc : Thread nD τ).loc main_arg2) := by
  funext y
  show m ((c.tc : Thread nD τ).loc main_arg2) ((win0_2.rect t0_0).emb y) = _
  exact congrArg _ (funext fun a => Fin.ext (Pipeline.Window.rect_emb_val_of_index_zero win0_2 t0_0 a rfl y))

theorem bb_eq : bb m c = m ((c.tc : Thread nD τ).loc main_arg3) := by
  funext y
  show m ((c.tc : Thread nD τ).loc main_arg3) ((win0_3.rect t0_0).emb y) = _
  exact congrArg _ (funext fun a => Fin.ext (Pipeline.Window.rect_emb_val_of_index_zero win0_3 t0_0 a rfl y))

theorem out_emb (y : S256x2048.Idx) : ((cfg0.win 4).blk t0_0).view.emb y = y :=
  funext fun a => Fin.ext (Pipeline.Window.rect_emb_val_of_index_zero win0_4 t0_0 a rfl y)

theorem flushed_out (t : Fin cfg0.N) :
    (dats m 0 c).flushed 4 t = ((cfg0.win 4).blk t).view.read (Elt F) (outAt m c) := by
  have ht : t = t0_0 := Fin.ext (by have := t.isLt; have hN : cfg0.N = 1 := by decide
                                    show t.val = 0; omega)
  subst ht
  have ha : (dats m 0 c).after 4 t0_0 = outAt m c := rfl
  unfold Pipeline.Dat.flushed
  rw [ha]
  funext y
  exact (congrArg (outAt m c) (out_emb y)).symm

theorem result_eq : (dats m 0 c).arrAt 4 cfg0.N = outAt m c :=
  (dats m 0 c).arrAt_eq_of_cover 4 (outAt m c) (fun t _ => flushed_out m c t) fun i =>
    ⟨t0_0, flush0_4 _, Finset.mem_map.mpr ⟨i, Finset.mem_univ i, out_emb i⟩⟩

/-- The run, read at the arrays: the result of device `c` is `outAt`, its arguments are unchanged, the counters end at zero. -/
theorem run_arrays (ρ : Dev nD → PrngReg) :
    θ_run defs (onTc (τ := τ) (main (F := F))) ⟨m, fun _ => 0, ρ⟩ fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun _ h => ⟨fun c => ⟨(h.1 c 4).trans (result_eq m c),
      (h.1 c 0).trans ((dats m 0 c).arrAt_in 0 rfl _), (h.1 c 1).trans ((dats m 0 c).arrAt_in 1 rfl _),
      (h.1 c 2).trans ((dats m 0 c).arrAt_in 2 rfl _), (h.1 c 3).trans ((dats m 0 c).arrAt_in 3 rfl _)⟩, h.2⟩)
    (run_main m ρ)

end Cert.Exchange

end
-- ==== Proof.Sums.lean ====
/-
# Int8 products as plain sums

An int8 product and the total of its magnitudes, read at a row and a column; a sum over 4096 positions as the sum over the
devices of the sums over their 256 positions.
-/
module

public import Idealize.ShloMosaic.Lib.IntMxu
public import Idealize.ShloMosaic.Lib.MatmulPlain
public import Idealize.ShloMosaic.Lib.StackMember
public import Idealize.ShloMosaic.Lib.ValueIdxCore
public import Idealize.ShloMosaic.Lib.Pipeline.Value
public import Idealize.ShloMosaic.PureOps.Ideal

@[expose] public section

noncomputable section

namespace Cert.Exchange

open Idealize.ShloMosaic Idealize.ShloMosaic.ValueIdx

/-- Where a plain product reads its operands. -/
theorem plain_lhs {M K N : ℕ} (r : Fin M) (n : Fin N) (k : Fin K) :
    (DotDims.plain M K N).lhsIdx (ix2 r n) ((DotDims.plainContr M K N).symm k) = ix2 r k := by
  funext a
  match a with
  | ⟨0, _⟩ => rfl
  | ⟨1, _⟩ => exact Fin.ext (contrEquiv1_symm_val _ K (DotDims.plain_contr_rank M K N) (DotDims.plain_contr_size M K N) k)

theorem plain_rhs {M K N : ℕ} (r : Fin M) (n : Fin N) (k : Fin K) :
    (DotDims.plain M K N).rhsIdx (ix2 r n) ((DotDims.plainContr M K N).symm k) = ix2 k n := by
  funext a
  match a with
  | ⟨0, _⟩ => exact Fin.ext (contrEquiv1_symm_val _ K (DotDims.plain_contr_rank M K N) (DotDims.plain_contr_size M K N) k)
  | ⟨1, _⟩ => rfl

/-- The exact product of two int8 matrices at row `r`, column `n`. -/
theorem dotI8_plain {M K N : ℕ} (A : IVec ⟨2, ![M, K]⟩ 8) (B : IVec ⟨2, ![K, N]⟩ 8) (r : Fin M) (n : Fin N) :
    dotI8 (DotDims.plain M K N) A B (ix2 r n) = ∑ k : Fin K, (A (ix2 r k)).toInt * (B (ix2 k n)).toInt := by
  unfold dotI8
  rw [← Equiv.sum_comp (DotDims.plainContr M K N).symm]
  exact Finset.sum_congr rfl fun k _ => by rw [plain_lhs, plain_rhs]

/-- The total of its products' magnitudes. -/
theorem absDotI8_plain {M K N : ℕ} (A : IVec ⟨2, ![M, K]⟩ 8) (B : IVec ⟨2, ![K, N]⟩ 8) (r : Fin M) (n : Fin N) :
    absDotI8 (DotDims.plain M K N) A B (ix2 r n) = ∑ k : Fin K, (A (ix2 r k)).toInt.natAbs * (B (ix2 k n)).toInt.natAbs := by
  unfold absDotI8
  rw [← Equiv.sum_comp (DotDims.plainContr M K N).symm]
  exact Finset.sum_congr rfl fun k _ => by rw [plain_lhs, plain_rhs, Int.natAbs_mul]

/-- Position `j` of device `d`'s 256 among the 4096. -/
def pos (d : Fin 16) (j : Fin 256) : Fin 4096 := ⟨256 * d.val + j.val, by have := d.isLt; have := j.isLt; omega⟩

/-- A sum over the 4096 positions is the sum of the devices' sums. -/
theorem sum_by_device {M : Type} [AddCommMonoid M] (f : Fin 4096 → M) : ∑ k, f k = ∑ d : Fin 16, ∑ j : Fin 256, f (pos d j) := by
  rw [← Fintype.sum_prod_type', ← Equiv.sum_comp (finProdFinEquiv (m := 16) (n := 256)) f]
  refine Finset.sum_congr rfl fun p _ => congrArg f (Fin.ext ?_)
  show p.2.val + 256 * p.1.val = 256 * p.1.val + p.2.val
  omega

/-- Sixteen totals of at most a sixteenth of the bound stay within it. -/
theorem total_le (f : Fin 4096 → ℕ) (h : ∀ d : Fin 16, ∑ j : Fin 256, f (pos d j) ≤ 1048575) : ∑ k, f k ≤ 2 ^ 24 - 1 := by
  rw [sum_by_device]
  calc _ ≤ ∑ _d : Fin 16, 1048575 := Finset.sum_le_sum fun d _ => h d
    _ ≤ 2 ^ 24 - 1 := by simp

/-- A finite sum of integers, read as an extended real. -/
theorem coe_sum_int {ι : Type} (s : Finset ι) (f : ι → ℤ) : (((∑ i ∈ s, f i : ℤ) : ℝ) : EReal) = ∑ i ∈ s, ((f i : ℝ) : EReal) := by
  classical
  induction s using Finset.induction_on with
  | empty => simp
  | insert a s ha ih => rw [Finset.sum_insert ha, Finset.sum_insert ha, Int.cast_add, EReal.coe_add, ih]

/-- An int8 word, widened and made a float, is the word's integer. -/
theorem widened (x : BitVec 8) : ((x.signExtend 32).toInt) = x.toInt := BitVec.toInt_signExtend_of_le (by decide)

/-- The magnitude of an int8 word, taken at 32 bits. -/
theorem widened_abs (x : BitVec 8) : (IntOp.absi (x.signExtend 32)).toInt = (x.toInt.natAbs : ℤ) := by
  revert x; decide +kernel

end Cert.Exchange

end
-- ==== Proof.Fits.lean ====
/-
# What the precondition says

The precondition compares, for every row of a device's `x`, every one of the sixteen 256-row parts of `w` and every
column of `w`, the total of the products' magnitudes with 1048575. Read over exact numbers it is a bound on a sum of natural numbers
(`fits`).
-/
module

public import proofs.«01_k».proof.Proof.Sums
public import proofs.«01_k».proof.Proof.Gen.Pre_products_fit_KernelIdeal

@[expose] public section

set_option maxRecDepth 16384

noncomputable section

namespace Cert.Exchange

open Cert.Pre_products_fit_KernelIdeal Cert.Pre_products_fit_KernelIdeal.Facts
open Idealize.ShloMosaic Idealize.ShloMosaic.ValueIdx

/-- The precondition's product contracts the 256 columns of `x` with the 256 rows of each part of `w`. -/
abbrev partDims : DotDims S4096x256 S16x256x2048 S4096x16x2048 := dot_S4096x256_S16x256x2048_S4096x16x2048_1_1_0_02_n_n

abbrev partContr : partDims.contr.Idx ≃ Fin 256 := contrEquiv1 partDims 256 (by decide) (by decide)

theorem part_lhs (i : Fin 4096) (s : Fin 16) (n : Fin 2048) (k : Fin 256) :
    partDims.lhsIdx (ix3 i s n) (partContr.symm k) = ix2 i k := by
  funext a
  match a with
  | ⟨0, _⟩ => rfl
  | ⟨1, _⟩ => exact Fin.ext (contrEquiv1_symm_val partDims 256 (by decide) (by decide) k)

theorem part_rhs (i : Fin 4096) (s : Fin 16) (n : Fin 2048) (k : Fin 256) :
    partDims.rhsIdx (ix3 i s n) (partContr.symm k) = ix3 s k n := by
  funext a
  match a with
  | ⟨0, _⟩ => rfl
  | ⟨1, _⟩ => exact Fin.ext (contrEquiv1_symm_val partDims 256 (by decide) (by decide) k)
  | ⟨2, _⟩ => rfl

/-- The number the totals are compared with. -/
theorem part_bound : (FloatOps.ofBits .f32 0x497FFFF0#32 : Ideal .f32) = ((1048575 : ℝ) : EReal) := by
  show Ideal.ofBits .f32 0x497FFFF0#32 = _
  simp [Ideal.ofBits, Ideal.ieee, -EReal.coe_mul]
  norm_num

/-- The magnitude of an int8 word as the predicate takes it. -/
theorem mag_eq (x : BitVec 8) : (FloatOps.sitofp .f32 (IntOp.absi (x.signExtend 32)) : Ideal .f32) = (((x.toInt.natAbs : ℤ) : ℝ) : EReal) := by
  show (((IntOp.absi (x.signExtend 32)).toInt : ℝ) : EReal) = _
  rw [widened_abs]

/-- The part `s` of `w` at its row `k`. -/
theorem part_row {α : Type} (w : S4096x2048.Idx → α) (s : Fin 16) (k : Fin 256) (n : Fin 2048) :
    shapeCast S16x256x2048 w shapeCasts_S4096x2048_S16x256x2048 (ix3 s k n) = w (ix2 (pos s k) n) := by
  refine shapeCast_apply w _ (ix3 s k n) (ix2 (pos s k) n) ?_
  rw [Shape.rowMajor_val_two, Shape.rowMajor_val_three]
  show (256 * s.val + k.val) * 2048 + n.val = (s.val * 256 + k.val) * 2048 + n.val
  omega

/-- Where the precondition holds, each total is at most 1048575. -/
theorem fits (x : IVec S4096x256 8) (w : IVec S4096x2048 8) (a b : FVec Ideal S1 .f32)
    (h : fn (F := Ideal) x w a b = fun _ => 1#1) (i : Fin 4096) (s : Fin 16) (n : Fin 2048) :
    ∑ k : Fin 256, (x (ix2 i k)).toInt.natAbs * (w (ix2 (pos s k) n)).toInt.natAbs ≤ 1048575 := by
  have e := congrFun h (ix3 i s n)
  have hd : (Host.dotGeneral partDims none (sitofp .f32 (absi (extsi 32 x natLt_8_32)))
      (shapeCast S16x256x2048 (sitofp .f32 (absi (extsi 32 w natLt_8_32))) shapeCasts_S4096x2048_S16x256x2048)
      : FVec Ideal S4096x16x2048 .f32) (ix3 i s n)
      = (((∑ k : Fin 256, (x (ix2 i k)).toInt.natAbs * (w (ix2 (pos s k) n)).toInt.natAbs : ℕ) : ℤ) : ℝ) := by
    simp only [Host.dotGeneral]
    rw [Ideal.dotGeneral_apply, ← Equiv.sum_comp partContr.symm, Nat.cast_sum, coe_sum_int]
    refine Finset.sum_congr rfl fun k _ => ?_
    rw [part_lhs, part_rhs, part_row, Nat.cast_mul, Int.cast_mul, EReal.coe_mul, ← mag_eq, ← mag_eq]
    rfl
  have hc : Ideal.cmp .ole ((((∑ k : Fin 256, (x (ix2 i k)).toInt.natAbs * (w (ix2 (pos s k) n)).toInt.natAbs : ℕ) : ℤ) : ℝ) : EReal)
      ((1048575 : ℝ) : EReal) = 1#1 := by
    rw [← hd, ← part_bound]; exact e
  have hl : ((((∑ k : Fin 256, (x (ix2 i k)).toInt.natAbs * (w (ix2 (pos s k) n)).toInt.natAbs : ℕ) : ℤ) : ℝ) : EReal) ≤ ((1048575 : ℝ) : EReal) := by
    by_contra hn
    simp only [Ideal.cmp, hn, decide_false] at hc
    exact absurd hc (by decide)
  have hr := EReal.coe_le_coe_iff.mp hl
  exact_mod_cast hr

end Cert.Exchange

end
-- ==== Proof.Value.lean ====
/-
# The value of the result

The rows of the whole `x` that device `c` has gathered, times `w`: under the precondition the device's int8 product is the
exact sum, which is the reference's sum of the same products; both are then multiplied by the product of the two scales.
-/
module

public import proofs.«01_k».proof.Proof.Arrays
public import proofs.«01_k».proof.Proof.Fits
public import proofs.«01_k».proof.Proof.Gen.ReferenceIdeal.Run

@[expose] public section

set_option maxRecDepth 16384

noncomputable section

namespace Cert.Exchange

open Cert.KernelIdeal Cert.KernelIdeal.Gen
open Idealize.ShloMosaic Idealize.ShloMosaic.ValueIdx Idealize.ShloMosaic.TcCoe
open Idealize.SL.Sem

/-- Row `r` of device `c`'s 256 among the 4096. -/
theorem rows_tile (h : Layout.Tiles ⟨2, ![256, 2048]⟩ ⟨2, ![4096, 2048]⟩ 0 16) (c : Fin 16) (r : Fin 256) (n : Fin 2048) :
    h.idx c (ix2 r n) = ix2 (pos c r) n := by
  funext a
  match a with
  | ⟨0, _⟩ => exact Fin.ext (show c.val * 256 + r.val = 256 * c.val + r.val by omega)
  | ⟨1, _⟩ => rfl

/-- Column `k` of device `d`'s 256 among the 4096. -/
theorem cols_tile (h : Layout.Tiles ⟨2, ![4096, 256]⟩ ⟨2, ![4096, 4096]⟩ 1 16) (d : Fin 16) (i : Fin 4096) (k : Fin 256) :
    h.idx d (ix2 i k) = ix2 i (pos d k) := by
  funext a
  match a with
  | ⟨0, _⟩ => rfl
  | ⟨1, _⟩ => exact Fin.ext (show d.val * 256 + k.val = 256 * d.val + k.val by omega)

/-- What device `c` gathered, at its row `r` and the position `k` of device `d`'s columns. -/
theorem gathered_pos (X : Dev nD → IVec S4096x256 8) (c d : Fin 16) (r k : Fin 256) :
    gathered (F := Ideal) X c (ix2 r (pos d k)) = X d (ix2 (pos c r) k) := by
  unfold gathered
  have hk := k.isLt
  congr 1
  · exact Fin.ext (show (256 * d.val + k.val) / 256 = d.val by omega)
  · funext a
    match a with
    | ⟨0, _⟩ => rfl
    | ⟨1, _⟩ => exact Fin.ext (show (256 * d.val + k.val) % 256 = k.val by omega)

/-- One element of device `c`'s result, exact wherever the precondition holds on every device. -/
theorem outAt_apply (X : Dev nD → IVec S4096x256 8) (w : IVec S4096x2048 8) (a b : FVec Ideal S1 .f32)
    (hpre : ∀ d : Dev nD, Cert.Pre_products_fit_KernelIdeal.fn (F := Ideal) (X d) w a b = fun _ => 1#1)
    (c : Fin 16) (r : Fin 256) (n : Fin 2048) :
    k0_pay2 (F := Ideal) (gathered X c) w (a one) (b one) (ix2 r n)
      = (∑ d : Fin 16, ∑ k : Fin 256, (((X d (ix2 (pos c r) k)).toInt : ℝ) : EReal) * (((w (ix2 (pos d k) n)).toInt : ℝ) : EReal))
        * (a one * b one) := by
  have hS : absDotI8 (DotDims.plain 256 4096 2048) (gathered (F := Ideal) X c) w (ix2 r n) ≤ 2 ^ 24 - 1 := by
    rw [absDotI8_plain]
    refine total_le _ fun d => ?_
    simp only [gathered_pos]
    exact fits (X d) w a b (hpre d) (pos c r) d n
  have hI : (matmulI8 IntMxuNumerics.v7x (DotDims.plain 256 4096 2048) (gathered (F := Ideal) X c) w (constantI S256x2048 32 0) (ix2 r n)).toInt
      = ∑ d : Fin 16, ∑ k : Fin 256, (X d (ix2 (pos c r) k)).toInt * (w (ix2 (pos d k) n)).toInt := by
    rw [Idealize.ShloMosaic.matmulI8_toInt _ _ _ _ _ _ rfl hS, dotI8_plain, sum_by_device]
    simp only [gathered_pos]
  have hV : (((matmulI8 IntMxuNumerics.v7x (DotDims.plain 256 4096 2048) (gathered (F := Ideal) X c) w (constantI S256x2048 32 0) (ix2 r n)).toInt : ℝ) : EReal)
      = ∑ d : Fin 16, ∑ k : Fin 256, (((X d (ix2 (pos c r) k)).toInt : ℝ) : EReal) * (((w (ix2 (pos d k) n)).toInt : ℝ) : EReal) := by
    rw [hI, coe_sum_int]
    refine Finset.sum_congr rfl fun d _ => ?_
    rw [coe_sum_int]
    exact Finset.sum_congr rfl fun k _ => by rw [Int.cast_mul, EReal.coe_mul]
  rw [← hV]
  unfold k0_pay2
  simp only [shapeCast_self]
  rfl

/-- The reference's result, as its run states it. -/
abbrev refOut (x : IVec ⟨2, ![4096, 4096]⟩ 8) (w : IVec S4096x2048 8) (a b : FVec Ideal S1 .f32) : FVec Ideal ⟨2, ![4096, 2048]⟩ .f32 :=
  mulf (Host.dotGeneral Cert.ReferenceIdeal.dot_S4096x4096_S4096x2048_S4096x2048_1_0_0_1_n_n none
      (sitofp .f32 (extsi 32 x Cert.ReferenceIdeal.Gen.natLt_8_32)) (sitofp .f32 (extsi 32 w Cert.ReferenceIdeal.Gen.natLt_8_32)))
    (broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf a b)))

/-- One element of it. -/
theorem refOut_apply (x : IVec ⟨2, ![4096, 4096]⟩ 8) (w : IVec S4096x2048 8) (a b : FVec Ideal S1 .f32) (i : Fin 4096) (n : Fin 2048) :
    refOut x w a b (ix2 i n) = (∑ k : Fin 4096, (((x (ix2 i k)).toInt : ℝ) : EReal) * (((w (ix2 k n)).toInt : ℝ) : EReal)) * (a one * b one) := by
  have hdot : (Host.dotGeneral (DotDims.plain 4096 4096 2048) none (sitofp .f32 (extsi 32 x Cert.ReferenceIdeal.Gen.natLt_8_32))
      (sitofp .f32 (extsi 32 w Cert.ReferenceIdeal.Gen.natLt_8_32)) : FVec Ideal ⟨2, ![4096, 2048]⟩ .f32) (ix2 i n)
      = ∑ k : Fin 4096, (((x (ix2 i k)).toInt : ℝ) : EReal) * (((w (ix2 k n)).toInt : ℝ) : EReal) := by
    rw [StackMember.dotGeneral_plain_apply]
    refine Finset.sum_congr rfl fun k _ => ?_
    rw [← widened (x (ix2 i k)), ← widened (w (ix2 k n))]
    rfl
  have hs : broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf a b)) (ix2 i n) = a one * b one := by
    rw [broadcastInDim_apply ![0, 1] _ _ (ix2 i n) (ix2 (0 : Fin 1) (0 : Fin 1)) (fun e => by match e with | ⟨0, _⟩ => rfl | ⟨1, _⟩ => rfl),
      broadcastInDim_apply ![1] _ _ (ix2 (0 : Fin 1) (0 : Fin 1)) one (fun e => by match e with | ⟨0, _⟩ => rfl)]
    rfl
  rw [← hdot, ← hs]
  rfl

/-- Device `c`'s result is its block of 256 rows of the reference's. -/
theorem outAt_eq_block (m : (ℓ : Loc nD τ sig) → Buf (Elt Ideal) ℓ) (x : IVec ⟨2, ![4096, 4096]⟩ 8) (w : IVec S4096x2048 8)
    (a b : FVec Ideal S1 .f32)
    (hpre : ∀ d : Dev nD, Cert.Pre_products_fit_KernelIdeal.fn (F := Ideal) (m ((d.tc : Thread nD τ).loc main_arg0))
      (m ((d.tc : Thread nD τ).loc main_arg1)) (m ((d.tc : Thread nD τ).loc main_arg2)) (m ((d.tc : Thread nD τ).loc main_arg3)) = fun _ => 1#1)
    (hx : ∀ d : Dev nD, m ((d.tc : Thread nD τ).loc main_arg0) = Layout.block ⟨2, ![4096, 256]⟩ ⟨2, ![4096, 4096]⟩ 1 16 d x)
    (hw : ∀ d : Dev nD, m ((d.tc : Thread nD τ).loc main_arg1) = w)
    (ha : ∀ d : Dev nD, m ((d.tc : Thread nD τ).loc main_arg2) = a)
    (hb : ∀ d : Dev nD, m ((d.tc : Thread nD τ).loc main_arg3) = b) (c : Dev nD) :
    outAt m c = Layout.block ⟨2, ![256, 2048]⟩ ⟨2, ![4096, 2048]⟩ 0 16 c (refOut x w a b) := by
  have hX : xb m = fun d : Dev nD => (Layout.block ⟨2, ![4096, 256]⟩ ⟨2, ![4096, 4096]⟩ 1 16 d x : IVec S4096x256 8) :=
    funext fun d => (xb_eq m d).trans (hx d)
  have hO : outAt m c = k0_pay2 (F := Ideal) (gathered (F := Ideal)
      (fun d : Dev nD => (Layout.block ⟨2, ![4096, 256]⟩ ⟨2, ![4096, 4096]⟩ 1 16 d x : IVec S4096x256 8)) c) w (a one) (b one) := by
    unfold outAt
    rw [hX, wb_eq, ab_eq, bb_eq, hw c, ha c, hb c]
  have hp : ∀ d : Dev nD, Cert.Pre_products_fit_KernelIdeal.fn (F := Ideal)
      (Layout.block ⟨2, ![4096, 256]⟩ ⟨2, ![4096, 4096]⟩ 1 16 d x) w a b = fun _ => 1#1 := by
    intro d; rw [← hx d, ← hw d, ← ha d, ← hb d]; exact hpre d
  rw [hO]
  funext y
  obtain ⟨r, n, rfl⟩ : ∃ (r : Fin 256) (n : Fin 2048), y = ix2 r n := ⟨y 0, y 1, eq_ix2 y⟩
  rw [Layout.block_apply, rows_tile, refOut_apply, sum_by_device, outAt_apply _ w a b hp c r n]
  simp only [Layout.block_apply, cols_tile]

end Cert.Exchange

end
-- ==== Proof.lean ====
/-
# The certificate of the all-to-all and int8 product

The frames of the three programs, and the equation of the kernel's results with the reference's. The kernel's run is proved
once, over any float values (Launch, read at the arrays in Arrays); the printed kernel and its ideal reading have the same
text, so both frames are instances of it. The value is the ideal instance, with the element-by-element equation of Value.
-/
module

public import proofs.«01_k».proof.Defs
public import proofs.«01_k».proof.Proof.Gen.Kernel
public import proofs.«01_k».proof.Proof.Gen.Pre_products_fit_ReferenceIdeal
public import proofs.«01_k».proof.Proof.SameText
public import proofs.«01_k».proof.Proof.Value
public import Idealize.ShloMosaic.Lib.Quiescent

@[expose] public section

set_option maxRecDepth 16384

noncomputable section

namespace Cert.Proof

open Idealize.ShloMosaic Idealize.SL.Sem

/-- The kernel over words: it terminates, its arguments are unchanged, every counter is zero. -/
theorem frame_kernel : Cert.quiescent_Kernel (hKernel := Cert.Kernel.Gen.facts) := fun m ρ _ => by
  rw [Cert.Exchange.same_defs]
  exact (θ_run Cert.KernelIdeal.defs _ _).mono (fun _ h => ⟨fun c => (h.1 c).2, h.2⟩) (Cert.Exchange.run_arrays (F := Bits) m ρ)

/-- The kernel over exact numbers, likewise. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.Exchange.run_arrays (F := Ideal) m ρ)

/-- The reference, likewise: it has no counters at all. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Device `c`'s result is block `c` of the reference's. -/
theorem value : Cert.algebraic_KernelIdeal_ReferenceIdeal_pre_products_fit_KernelIdeal (hKernelIdeal := Cert.KernelIdeal.Gen.facts)
    (hReferenceIdeal := Cert.ReferenceIdeal.Gen.facts)
    (hPre_products_fit_KernelIdeal := Cert.Pre_products_fit_KernelIdeal.Gen.facts) := fun m ρ m' ρ' hpre hm =>
  ⟨Cert.Exchange.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun _ h c => ⟨(h.1 c).1.trans (Cert.Exchange.outAt_eq_block m _ _ _ _ hpre
        (fun d => (hm d).1) (fun d => (hm d).2.1) (fun d => (hm d).2.2.1) (fun d => (hm d).2.2.2) c), (h.1 c).2⟩)
      (Cert.Exchange.run_arrays (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, Cert.Pre_products_fit_KernelIdeal.Gen.facts,
    Cert.Pre_products_fit_ReferenceIdeal.Gen.facts, frame_kernel, frame_ideal, fun m ρ _ => frame_ideal m ρ trivial, frame_reference,
    fun m ρ _ => frame_reference m ρ trivial, trivial, value⟩

end Cert.Proof

end
